-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 1]⟩ ⟨2, ![1024, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S512 : Shape := ⟨1, ![512]⟩
abbrev S2x4x128 : Shape := ⟨3, ![2, 4, 128]⟩
abbrev S2 : Shape := ⟨1, ![2]⟩
abbrev S_ : Shape := ⟨0, ![]⟩
abbrev S1 : Shape := ⟨1, ![1]⟩
abbrev S256x256 : Shape := ⟨2, ![256, 256]⟩
abbrev S256 : Shape := ⟨1, ![256]⟩
abbrev S2x128 : Shape := ⟨2, ![2, 128]⟩
abbrev S1x2x128 : Shape := ⟨3, ![1, 2, 128]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x256, .bf16⟩
  | .hbm, ⟨1, _⟩ => ⟨S512, .bf16⟩
  | .hbm, ⟨2, _⟩ => ⟨S512x1, .bf16⟩
  | .local _ .vmem, ⟨0, _⟩ => ⟨S512, .bf16⟩
  | .local _ .vmem, ⟨1, _⟩ => ⟨S512x256, .bf16⟩
  | .local _ .vmem, ⟨2, _⟩ => ⟨S2x4x128, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_30 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_29 : BitVec 32 := 2#32
  let v30 : BitVec 32 := Scalar.muli v2 c2_i32_29
  let v31 : BitVec 32 := Scalar.addi c0_i32_30 v30
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_31 : BitVec 32 := 1#32
  let v32 : BitVec 32 := Scalar.muli v6 c1_i32_31
  let v33 : BitVec 32 := Scalar.addi v31 v32
  v33.toNat
def k0_dev3 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v52 : BitVec 32 := Scalar.muli v2 c2_i32_49
  let v53 : BitVec 32 := Scalar.addi c0_i32_50 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_51 : BitVec 32 := 1#32
  let v54 : BitVec 32 := Scalar.muli v6 c1_i32_51
  let v55 : BitVec 32 := Scalar.addi v53 v54
  v55.toNat
abbrev stage0_0 : Fin 1 → Memref sig .tc .vmem S512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x512 : Shape := ⟨2, ![1024, 512]⟩
abbrev S_ : Shape := ⟨0, ![]⟩
abbrev S1024 : Shape := ⟨1, ![1024]⟩
abbrev S1024x1 : Shape := ⟨2, ![1024, 1]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S_, .bf16⟩
  | .hbm, ⟨2, _⟩ => ⟨S1024, .bf16⟩
  | .hbm, ⟨3, _⟩ => ⟨S1024x1, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
  The talk between the two devices of a mesh row, as a schedule of duties.

  Every device has seven cells that carry a duty, each for one round:

    0  the barrier           paid by the neighbour's signal: the neighbour's two landing slots
    1, 2  the inputs         paid by the device's own copies of its block's two row halves into VMEM
    3, 4  the sends          paid by the device's own transfers: the half share of the slot that was read
    5, 6  the receives       paid by the neighbour's transfers: the landing slot, holding the neighbour's row maxima

  A device signals the barrier with its own landing slots in the payload, so a transfer into a slot cannot start
  before the slot's owner has given it up. The send keeps half a share of its source slot with the device, which
  reads that slot while the transfer is under way.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline.Kit
public import Idealize.ShloMosaic.Lib.Tactic

@[expose] public section

noncomputable section

namespace Cert.RowMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's copy of the rounds algebra beside the talk's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The neighbour -/

/-- The other device of the mesh row of `c`. -/
def peer (c : Dev nD) : Dev nD := ⟨k0_dev1 c, k0_dev1_lt c⟩

/-- The neighbour along y: the other device of the pair. -/
theorem peer_val (c : Dev nD) : (peer c).val = 2 * (c.val / 2) + 1 - c.val % 2 := k0_dev1_eq c
/-- The neighbour's neighbour is the device itself. -/
theorem peer_peer (c : Dev nD) : peer (peer c) = c := by
  apply Fin.ext
  rw [peer_val, peer_val]
  have := c.isLt
  omega
/-- The first transfer names the same neighbour. -/
theorem peer_dev2 (c : Dev nD) : (⟨k0_dev2 c, k0_dev2_lt c⟩ : Dev nD) = peer c :=
  Fin.ext ((k0_dev2_eq c).trans (peer_val c).symm)
/-- So does the second. -/
theorem peer_dev3 (c : Dev nD) : (⟨k0_dev3 c, k0_dev3_lt c⟩ : Dev nD) = peer c :=
  Fin.ext ((k0_dev3_eq c).trans (peer_val c).symm)

/-- The neighbours as a permutation of the devices. -/
def swap : Dev nD ≃ Dev nD := ⟨peer, peer, peer_peer, peer_peer⟩

/-! ## The memrefs and their parts -/

abbrev xM : Memref sig .tc .hbm S512x256 .bf16 := Memref.whole main_arg0
abbrev oM : Memref sig .tc .vmem S512 .bf16 := Memref.whole cc0_stg0_0
abbrev vM : Memref sig .tc .vmem S512x256 .bf16 := Memref.whole cc0_scratch0
abbrev cM : Memref sig .tc .vmem S2x4x128 .bf16 := Memref.whole cc0_scratch1

/-- The first and the last 256 rows of the block. -/
abbrev rX0 : Rect S512x256 := Rect.unit (s := S512x256) ![0, 0] S256x256.size inb_S512x256_S256x256_0_0
abbrev rX1 : Rect S512x256 := Rect.unit (s := S512x256) ![256, 0] S256x256.size inb_S512x256_S256x256_256_0
/-- The slots of the communication scratch: `rA` holds the device's own maxima, `rB` the neighbour's. -/
abbrev rA0 : Rect S2x4x128 := Rect.unit (s := S2x4x128) ![0, 0, 0] S1x2x128.size inb_S2x4x128_S1x2x128_0_0_0
abbrev rA1 : Rect S2x4x128 := Rect.unit (s := S2x4x128) ![0, 2, 0] S1x2x128.size inb_S2x4x128_S1x2x128_0_2_0
abbrev rB0 : Rect S2x4x128 := Rect.unit (s := S2x4x128) ![1, 0, 0] S1x2x128.size inb_S2x4x128_S1x2x128_1_0_0
abbrev rB1 : Rect S2x4x128 := Rect.unit (s := S2x4x128) ![1, 2, 0] S1x2x128.size inb_S2x4x128_S1x2x128_1_2_0
/-- The halves of the result, and the whole of it. -/
abbrev rO0 : Rect S512 := Rect.unit (s := S512) ![0] S256.size inb_S512_S256_0
abbrev rO1 : Rect S512 := Rect.unit (s := S512) ![256] S256.size inb_S512_S256_256
abbrev rO : Rect S512 := Rect.unit (s := S512) ![0] S512.size inb_S512_S512_0

abbrev xS0 : Memref sig .tc .hbm S256x256 .bf16 := xM.slice rX0 (fun _ => rfl)
abbrev xS1 : Memref sig .tc .hbm S256x256 .bf16 := xM.slice rX1 (fun _ => rfl)
abbrev vS0 : Memref sig .tc .vmem S256x256 .bf16 := vM.slice rX0 (fun _ => rfl)
abbrev vS1 : Memref sig .tc .vmem S256x256 .bf16 := vM.slice rX1 (fun _ => rfl)
abbrev aS0 : Memref sig .tc .vmem S2x128 .bf16 := (cM.slice rA0 (fun _ => rfl) : Memref sig .tc .vmem S1x2x128 .bf16).squeeze S2x128 squeezes_S1x2x128_S2x128
abbrev aS1 : Memref sig .tc .vmem S2x128 .bf16 := (cM.slice rA1 (fun _ => rfl) : Memref sig .tc .vmem S1x2x128 .bf16).squeeze S2x128 squeezes_S1x2x128_S2x128
abbrev bS0 : Memref sig .tc .vmem S2x128 .bf16 := (cM.slice rB0 (fun _ => rfl) : Memref sig .tc .vmem S1x2x128 .bf16).squeeze S2x128 squeezes_S1x2x128_S2x128
abbrev bS1 : Memref sig .tc .vmem S2x128 .bf16 := (cM.slice rB1 (fun _ => rfl) : Memref sig .tc .vmem S1x2x128 .bf16).squeeze S2x128 squeezes_S1x2x128_S2x128

/-! ## The cells -/

/-- The semaphore of a device's `k`th cell. -/
abbrev ksem : Fin 7 → SemLoc sig := fun
  | 0 => .reg barrier0 | 1 => .dma 1 | 2 => .dma 2 | 3 => .dma 3 | 4 => .dma 4 | 5 => .dma 5 | 6 => .dma 6
/-- Cell `k` of device `c`. -/
abbrev cell (c : Dev nD) (k : Fin 7) : GSem nD τ sig := ((c : Thread nD τ), ksem k)
/-- Which cell a semaphore is; the output's staging semaphore is none of them and has no duty. -/
abbrev sidx : SemLoc sig → Fin 7 := fun | .reg _ => 0 | .dma i => i

/-- A cell's semaphore has the cell's number. -/
theorem sidx_ksem (k : Fin 7) : sidx (ksem k) = k := by revert k; decide
/-- Different cells have different semaphores. -/
theorem ksem_injective : Function.Injective ksem := fun a b h => by rw [← sidx_ksem a, h, sidx_ksem]
/-- No cell is the semaphore of the output's staging. -/
theorem ksem_ne_stage (k : Fin 7) : ksem k ≠ .dma 0 := by revert k; decide

/-- The units one copy of a row half, and one transfer of a slot, pays. -/
abbrev Nx0 : ℕ := vS0.view.dmaCredit
abbrev Nx1 : ℕ := vS1.view.dmaCredit
abbrev Nc0 : ℕ := bS0.view.dmaCredit
abbrev Nc1 : ℕ := bS1.view.dmaCredit
/-- How much each cell's duty brings. -/
abbrev kamt : Fin 7 → ℕ := fun
  | 0 => 1 | 1 => Nx0 | 2 => Nx1 | 3 => Nc0 | 4 => Nc1 | 5 => Nc0 | 6 => Nc1

/-- Every duty brings something. -/
theorem kamt_pos (k : Fin 7) : 0 < kamt k := by
  fin_cases k
  · exact Nat.one_pos
  all_goals exact View.dmaCredit_pos _ (by decide)

/-! ## Contents -/

/-- The row half `r` of device `c`'s block. -/
def rows (c : Dev nD) (r : Rect S512x256) : r.shape.Idx → Elt F .bf16 :=
  (xM.access r).read (Elt F) (m ((c : Thread nD τ).loc main_arg0))
/-- The VMEM copy of the block once the row half `r` has landed, outside `r` as at launch. -/
def landed (c : Dev nD) (r : Rect S512x256) : (cc0_scratch0 : Ref sig .tc).ty.Contents (Elt F) :=
  (vM.access r).write (Elt F) (m ((c : Thread nD τ).loc cc0_scratch0)) (rows m c r) Finset.univ
/-- The communication scratch with the slot `r` at `w`, outside `r` as at launch. -/
def slotAt (c : Dev nD) (r : Rect S2x4x128) (w : r.shape.Idx → Elt F .bf16) : (cc0_scratch1 : Ref sig .tc).ty.Contents (Elt F) :=
  (cM.access r).write (Elt F) (m ((c : Thread nD τ).loc cc0_scratch1)) w Finset.univ

/-- Device `c`'s own row maxima, over its 256 columns, of the first and of the last 256 rows. -/
def part0 (c : Dev nD) : S1x2x128.Idx → Elt F .bf16 := k0_pay2 (k0_pay1 (rows m c rX0))
def part1 (c : Dev nD) : S1x2x128.Idx → Elt F .bf16 := k0_pay3 (rows m c rX1)

/-! ## Points-tos -/

/-- The rows `r` of the device's block in HBM, as at launch. -/
def xPts (c : Dev nD) (r : Rect S512x256) : sProp 𝕄 :=
  ((c : Thread nD τ).loc main_arg0) ↦[(xM.access r).set]{fullShare} (m ((c : Thread nD τ).loc main_arg0))
/-- The rows `r` of its copy in VMEM, at `f`. -/
def vPts (c : Dev nD) (r : Rect S512x256) (f : (cc0_scratch0 : Ref sig .tc).ty.Contents (Elt F)) : sProp 𝕄 :=
  ((c : Thread nD τ).loc cc0_scratch0) ↦[(vM.access r).set]{fullShare} f
/-- The slot `r` of the communication scratch, at `f`, in share `q`. -/
def cPts (c : Dev nD) (r : Rect S2x4x128) (q : PosShare TreeShare) (f : (cc0_scratch1 : Ref sig .tc).ty.Contents (Elt F)) : sProp 𝕄 :=
  ((c : Thread nD τ).loc cc0_scratch1) ↦[(cM.access r).set]{q} f

omit [FloatOps F] in
instance xPts_storable (c : Dev nD) (r) : BI.Storable (upEmb : UEmb _ 𝕄) (xPts (F := F) m c r) := by unfold xPts; infer_instance
omit [FloatOps F] in
instance vPts_storable (c : Dev nD) (r f) : BI.Storable (upEmb : UEmb _ 𝕄) (vPts (F := F) c r f) := by unfold vPts; infer_instance
omit [FloatOps F] in
instance cPts_storable (c : Dev nD) (r q f) : BI.Storable (upEmb : UEmb _ 𝕄) (cPts (F := F) c r q f) := by unfold cPts; infer_instance

/-! ## The schedule -/

/-- What the neighbour's signal hands `c`: the neighbour's landing slots, and that the cells of their transfers are open. -/
def barPay (c : Dev nD) : sProp 𝕄 :=
  iprop((∃ f, cPts (peer c) rB0 fullShare f) ∗ (∃ f, cPts (peer c) rB1 fullShare f)
    ∗ reached ER (cell (peer c) 5) 0 ∗ reached ER (cell (peer c) 6) 0)
/-- What the copy of a row half hands back: the VMEM rows at the block's rows, and the block's rows. -/
def inPay (c : Dev nD) (r : Rect S512x256) : sProp 𝕄 := iprop(vPts c r (landed m c r) ∗ xPts m c r)

/-- The payload of each cell's duty. -/
def kpay (c : Dev nD) : Fin 7 → sProp 𝕄
  | 0 => barPay c
  | 1 => inPay m c rX0
  | 2 => inPay m c rX1
  | 3 => cPts c rA0 fullShare.left (slotAt m c rA0 (part0 m c))
  | 4 => cPts c rA1 fullShare.left (slotAt m c rA1 (part1 m c))
  | 5 => cPts c rB0 fullShare (slotAt m c rB0 (part0 m (peer c)))
  | 6 => cPts c rB1 fullShare (slotAt m c rB1 (part1 m (peer c)))

instance kpay_storable (c : Dev nD) (k : Fin 7) : BI.Storable (upEmb : UEmb _ 𝕄) (kpay m c k) := by
  unfold kpay barPay inPay
  split <;> infer_instance

/-- One duty in round 0 of every cell. -/
def talk : Rounds.Schedule (GSem nD τ sig) Unit 𝕄 where
  duties g r := if r = 0 ∧ g.1.2 = .tc ∧ g.2 ≠ .dma 0 then {()} else ∅
  unitless _ := False
  amount g _ _ := kamt (sidx g.2)
  payload g _ _ := kpay m g.1.1 (sidx g.2)
  amount_pos g _ _ _ := kamt_pos _

instance talk_payload_storable (g : GSem nD τ sig) (r : ℕ) (d : Unit) :
    BI.Storable (upEmb : UEmb _ 𝕄) ((talk (F := F) m).payload g r d) := kpay_storable m g.1.1 (sidx g.2)

section Sched

variable (c : Dev nD) (k : Fin 7)

/-- Each cell has one duty, in its one round. -/
theorem duties_cell : (talk (F := F) m).duties (cell c k) 0 = {()} := if_pos ⟨rfl, rfl, ksem_ne_stage k⟩
/-- That duty is one of the round's. -/
theorem duty_mem (d : Unit) : d ∈ (talk (F := F) m).duties (cell c k) 0 := by rw [duties_cell]; exact Finset.mem_singleton_self _
/-- No cell has a duty in a later round. -/
theorem duties_later (g : GSem nD τ sig) : ∀ r, 1 ≤ r → (talk (F := F) m).duties g r = ∅ :=
  fun r hr => if_neg fun h => by omega
/-- What a cell's duty brings. -/
theorem amount_cell (d : Unit) : (talk (F := F) m).amount (cell c k) 0 d = kamt k := congrArg kamt (sidx_ksem k)
/-- What a cell's duty hands over. -/
theorem payload_cell (d : Unit) : (talk (F := F) m).payload (cell c k) 0 d = kpay m c k := congrArg (kpay m c) (sidx_ksem k)
/-- What a wait at a cell takes is what its one duty brings. -/
theorem expect_cell : (talk (F := F) m).expect (cell c k) 0 = kamt k := by
  unfold Schedule.expect Schedule.amountOf
  rw [duties_cell, Finset.sum_singleton, amount_cell]
/-- What a wait at a cell receives is that duty's payload. -/
theorem rest_cell : bigSep ((talk (F := F) m).duties (cell c k) 0 \ ∅) (fun d => (talk (F := F) m).payload (cell c k) 0 d) = kpay m c k := by
  rw [Finset.sdiff_empty, duties_cell, bigSep_singleton, payload_cell]

end Sched

/-! ## Owed at launch; levels -/

/-- What the transfer of the second slot, and of the first, owes the neighbour. -/
abbrev O2 (c : Dev nD) : CellTallies nD τ sig Unit := tallyAt (cell (peer c) 6) () Nc1
abbrev O1 (c : Dev nD) : CellTallies nD τ sig Unit := O2 c + tallyAt (cell (peer c) 5) () Nc0
/-- Device `c` owes its neighbour two transfers and one signal. -/
abbrev O₀ (c : Dev nD) : CellTallies nD τ sig Unit := O1 c + tallyAt (cell (peer c) 0) () 1

/-- The cells of the talk have one index. -/
def L (g : GSem nD τ sig) : Finset Unit := if g.1.2 = .tc then {()} else ∅
/-- Receives above the barrier, the barrier above the device's own copies and the output's staging. -/
def lv (g : GSem nD τ sig) (_ : Unit) : ℕ := if g.2 = ksem 5 ∨ g.2 = ksem 6 then 2 else if g.2 = ksem 0 then 1 else 0

/-- No other thread's cells take part. -/
theorem L_of_ne (g : GSem nD τ sig) (h : g.1.2 ≠ .tc) : L g = ∅ := if_neg h
/-- Every cell of the devices' threads takes part. -/
theorem L_tc (c : Dev nD) (sm : SemLoc sig) : L ((c : Thread nD τ), sm) = {()} := if_pos rfl

/-- The first receive is at the highest level. -/
theorem lv_recv0 (c : Dev nD) (u : Unit) : lv (cell c 5) u = 2 := if_pos (.inl rfl)
/-- So is the second. -/
theorem lv_recv1 (c : Dev nD) (u : Unit) : lv (cell c 6) u = 2 := if_pos (.inr rfl)

/-- A tally at one cell is positive at that cell alone. -/
theorem tallyAt_supp {g g' : GSem nD τ sig} {n : ℕ} {u : Unit} (h : 0 < tallyAt g' () n g u) : g = g' := by
  rw [tallyAt_apply] at h
  by_contra hn
  rw [if_neg (fun e => hn e.1)] at h
  exact Nat.lt_irrefl 0 h

/-- While only transfers are owed, the barrier and the device's own copies may be waited for. -/
theorem mayWait_of (c p : Dev nD) (k : Fin 7) (hk : k ≠ 5 ∧ k ≠ 6) (O : CellTallies nD τ sig Unit)
    (hO : ∀ g u, 0 < O g u → g = cell p 5 ∨ g = cell p 6) :
    (levAts L lv : sProp 𝕄) ⊢ MayWait (c : Thread nD τ) (ksem k) () O :=
  MayOwe.of_cut (L := L) (lev := lv) 1 (fun p hp => by rw [Finset.mem_singleton.mp hp, L_tc]; exact Finset.mem_singleton_self _)
    (fun g u hg => by rcases hO g u hg with h | h <;> (rw [h, L_tc]; exact Finset.mem_singleton_self _))
    (fun p hp => by
      rw [Finset.mem_singleton.mp hp]
      simp only [lv]
      rw [if_neg (fun h => h.elim (fun h => hk.1 (ksem_injective h)) fun h => hk.2 (ksem_injective h))]
      split <;> omega)
    (fun g u hg => by
      rcases hO g u hg with h | h
      · rw [h, lv_recv0]; exact Nat.one_lt_two
      · rw [h, lv_recv1]; exact Nat.one_lt_two)

/-- While the second transfer is owed, every cell but the receives may be waited for. -/
theorem mayWait_O2 (c : Dev nD) (k : Fin 7) (hk : k ≠ 5 ∧ k ≠ 6) :
    (levAts L lv : sProp 𝕄) ⊢ MayWait (c : Thread nD τ) (ksem k) () (O2 c) :=
  mayWait_of c (peer c) k hk _ fun g u h => .inr (tallyAt_supp h)
/-- The same while both transfers are owed. -/
theorem mayWait_O1 (c : Dev nD) (k : Fin 7) (hk : k ≠ 5 ∧ k ≠ 6) :
    (levAts L lv : sProp 𝕄) ⊢ MayWait (c : Thread nD τ) (ksem k) () (O1 c) :=
  mayWait_of c (peer c) k hk _ fun g u h => by
    rcases Nat.add_pos_iff_pos_or_pos.mp (show 0 < tallyAt (cell (peer c) 6) () Nc1 g u + tallyAt (cell (peer c) 5) () Nc0 g u from h) with h | h
    · exact .inr (tallyAt_supp h)
    · exact .inl (tallyAt_supp h)

end Cert.RowMax
-- ==== Proof.Steps.lean ====
/-
  The kernel's copies, transfers and waits, each as one step over the schedule of `Protocol`, and the parts into which
  the buffers are cut.
-/
module

public import proofs.«01_k».proof.Proof.Protocol

@[expose] public section

noncomputable section

namespace Cert.RowMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Contents on a part -/

omit [FloatOps F] in
/-- On the elements of a view, a write of the whole view does not depend on what was there. -/
theorem write_base {κ : Kind} {sp : Space} {s : Shape} {e : EltTy} (v : View sig κ sp s e) (f g : v.ty.Contents (Elt F))
    (w : s.Idx → Elt F e) (i : v.ty.Idx) (hi : i ∈ v.set) :
    v.write (Elt F) f w Finset.univ i = v.write (Elt F) g w Finset.univ i :=
  View.write_congr (fun _ _ _ => rfl) fun h => absurd hi h

omit [FloatOps F] in
/-- A write through a view read through another at the same second shape is the write at the first shape. -/
theorem write_reshape {κ κ' : Kind} {sp sp' : Space} {s s' : Shape} {e : EltTy} (v : View sig κ sp s e) (u : View sig κ' sp' s e)
    (h : s'.numel = s.numel) (f : v.ty.Contents (Elt F)) (g : u.ty.Contents (Elt F)) (i : v.ty.Idx) (hi : i ∈ v.set) :
    (v.reshape s' h).write (Elt F) f ((u.reshape s' h).read (Elt F) g) Finset.univ i
      = v.write (Elt F) f (u.read (Elt F) g) Finset.univ i := by
  obtain ⟨x, -, rfl⟩ := Finset.mem_map.mp hi
  obtain ⟨y, rfl⟩ := (Shape.reshapeEquiv h).surjective x
  rw [View.write_emb_of_mem _ _ (Finset.mem_univ _)]
  exact View.write_emb_of_mem (v := v.reshape s' h) f _ (Finset.mem_univ y)

/-! ## Steps -/

/-- The two rows of a slot that start at `a`. -/
abbrev slot (a : Fin 3 → ℕ) (ha : ∀ i, a i + S1x2x128.size i ≤ S2x4x128.size i) : Rect S2x4x128 := Rect.unit (s := S2x4x128) a S1x2x128.size ha
/-- It as the memref that a transfer takes. -/
abbrev slotM (a : Fin 3 → ℕ) (ha : ∀ i, a i + S1x2x128.size i ≤ S2x4x128.size i) : Memref sig .tc .vmem S2x128 .bf16 :=
  (cM.slice (slot a ha) (fun _ => rfl) : Memref sig .tc .vmem S1x2x128 .bf16).squeeze S2x128 squeezes_S1x2x128_S2x128

omit [FloatOps F] in
/-- What a transfer leaves in the slot at `b`, on that slot, is what the slot at `a` held. -/
theorem slot_landed (c c' : Dev nD) (a b : Fin 3 → ℕ) (ha : ∀ i, a i + S1x2x128.size i ≤ S2x4x128.size i)
    (hb : ∀ i, b i + S1x2x128.size i ≤ S2x4x128.size i) (w : S1x2x128.Idx → Elt F .bf16)
    (f : (cc0_scratch1 : Ref sig .tc).ty.Contents (Elt F)) (i : (cM.access (slot b hb)).ty.Idx) (hi : i ∈ (cM.access (slot b hb)).set) :
    (slotM b hb).view.write (Elt F) f ((slotM a ha).view.read (Elt F) (slotAt m c (slot a ha) w)) Finset.univ i
      = slotAt m c' (slot b hb) w i := by
  refine (write_reshape (cM.access (slot b hb)) (cM.access (slot a ha)) _ _ _ i hi).trans ?_
  have h : (cM.access (slot a ha)).read (Elt F) (slotAt m c (slot a ha) w) = w := View.read_write_univ _ _
  rw [h]
  exact write_base (cM.access (slot b hb)) _ _ w i hi

section Steps

variable (K : GSem nD τ sig → ℕ) (c : Dev nD) {Q : PUnit → sProp 𝕄} {kk : PUnit → Prog (TpuEff nD τ sig (Elt F) Λ₀ .tc) PUnit}

/-- The copy of the row half `r` of the block into VMEM, on the device's cell `k`. -/
theorem wp_fetch {α : Type} {Q : α → sProp 𝕄} {kk : PUnit → Prog (TpuEff nD τ sig (Elt F) Λ₀ .tc) α} (k : Fin 7) (sm : SemLoc sig) (hs : sm = ksem k) (r : Rect S512x256) (hr : ∀ a, r.stride a = 1)
    (hN : (vM.slice r hr).view.amount sm = kamt k) (hp : kpay m c k = inPay m c r)
    (hsrc : (xM.slice r hr).view.WordExact) (hdst : (vM.slice r hr).view.WordExact)
    (hsem : DmaTarget.Typed (nD := nD) (τ := τ) .hbm sm (.here (p := .tc) (vM.slice r hr)))
    (f : (cc0_scratch0 : Ref sig .tc).ty.Contents (Elt F)) :
    iprop(cellInv ER (talk m) (K (cell c k)) (cell c k) ∗ xPts m c r ∗ vPts c r f
        ∗ dutyTok ER (cell c k) 0 () ∗ reached ER (cell c k) 0)
      ⊢ iprop((cred (tallyAt (cell c k) () (kamt k)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xM.slice r hr) (.here (vM.slice r hr)) sm hsrc hdst hsem) kk) Q) := by
  subst hs
  unfold xPts vPts
  exact Rounds.wp_copy_pointsTo 𝒱₀ ER (talk m) (c : Thread nD τ) none (src := xM.slice r hr) (dst := vM.slice r hr) (sem := ksem k)
    (q := fullShare) (fs := m ((c : Thread nD τ).loc main_arg0)) (fd := f) (r := 0) (d := ()) (κ := K (cell c k))
    (duty_mem m c k ()) () (kamt k) hN (amount_cell m c k ())
    (by
      rw [payload_cell, hp]
      unfold inPay vPts xPts
      exact sep_mono_left (Entails.of_eq (pointsTo_congr fun i hi => write_base (vM.access r) _ _ _ i hi)))

/-- A wait for a copy or a transfer on the device's cell `k`. -/
theorem wp_arrive {α : Type} {Q : α → sProp 𝕄} {kk : PUnit → Prog (TpuEff nD τ sig (Elt F) Λ₀ .tc) α} (k : Fin 7) (s : DmaSem sig) (hs : SemLoc.dma s = ksem k) {sp sp' : Space} {sh sh' : Shape} {e e' : EltTy}
    (src : Memref sig .tc sp' sh' e') (dst : Memref sig .tc sp sh e) (hsrc : src.view.WordExact) (hdst : dst.view.WordExact)
    (hN : dst.view.dmaCredit = kamt k) (O : CellTallies nD τ sig Unit) (W : Waits sig Unit) :
    iprop(cellInv ER (talk m) (K (cell c k)) (cell c k) ∗ cred (tallyAt (cell c k) () (kamt k)) ∗ owes (c : Thread nD τ) O W
        ∗ MayWait (c : Thread nD τ) (ksem k) () O ∗ atPos ER (cell c k) 0 ∅ 0)
      ⊢ iprop(((∃ W, owes (c : Thread nD τ) O W) ∗ atPos ER (cell c k) 1 ∅ 0 ∗ kpay m c k
              -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  iintro ⟨HI, Hc, HO, Hm, Hat⟩ Hk
  iapply (Rounds.wp_wait_rest_token 𝒱₀ ER (talk m) (c : Thread nD τ) none (κ := K (cell c k)) (sm := ksem k) (k' := kamt k)
      (fun X => (wpE_waitDma2_eq 𝒱₀ (c : Thread nD τ) none Set.univ X).trans (by rw [hs, hN])) (Set.mem_univ _) () (O := O) (W := W) (R := 0) (m := 0) (T := ∅)
      ((Nat.zero_add _).trans (expect_cell m c k).symm)) $$ [HI Hc HO Hm Hat]
  · isplitl [HI]; · iexact HI
    isplitl [Hc]; · iexact Hc
    isplitl [HO]; · iexact HO
    isplitl [Hm] <;> iassumption
  iintro ⟨HO, Hat, -, Hp⟩
  iapply Hk
  isplitl [HO]; · iexists _; iexact HO
  isplitl [Hat]; · iexact Hat
  iapply (Entails.of_eq (rest_cell m c k)); iexact Hp

/-- The transfer of the slot at `a` to the neighbour's slot at `b`, out of a half share: it pays the device's send cell
    `k` and the neighbour's receive cell `k'`. -/
theorem wp_pass {α : Type} {Q : α → sProp 𝕄} {kk : PUnit → Prog (TpuEff nD τ sig (Elt F) Λ₀ .tc) α} (k k' : Fin 7) (sS sR : SemLoc sig) (hS : sS = ksem k) (hR : sR = ksem k') (n : Dev nD) (hn : n = peer c)
    (a b : Fin 3 → ℕ) (ha : ∀ i, a i + S1x2x128.size i ≤ S2x4x128.size i) (hb : ∀ i, b i + S1x2x128.size i ≤ S2x4x128.size i)
    (w : S1x2x128.Idx → Elt F .bf16)
    (dst : Memref sig .tc .vmem S2x128 .bf16)
    (hdv : dst = slotM b hb)
    (hN : dst.view.amount sR = kamt k) (hk : kamt k' = kamt k)
    (hp : kpay m c k = cPts c (slot a ha) fullShare.left (slotAt m c (slot a ha) w))
    (hp' : kpay m (peer c) k' = cPts (peer c) (slot b hb) fullShare (slotAt m (peer c) (slot b hb) w))
    (O₀ O : CellTallies nD τ sig Unit) (hO : O₀ = O + tallyAt (cell (peer c) k') () (kamt k))
    (hsc : dst.view.ref.isScScratch = false)
    (hsrc : (slotM a ha).view.WordExact)
    (hdst : dst.view.WordExact)
    (hsem : DmaTarget.Typed (nD := nD) (τ := τ) .vmem sR (.remote (p := .tc) (Dev.tc n : Thread nD τ) dst sS hsc))
    (f : (cc0_scratch1 : Ref sig .tc).ty.Contents (Elt F)) (W : Waits sig Unit) :
    iprop(cellInv ER (talk m) (K (cell c k)) (cell c k) ∗ cellInv ER (talk m) (K (cell (peer c) k')) (cell (peer c) k')
        ∗ cPts c (slot a ha) fullShare.left (slotAt m c (slot a ha) w)
        ∗ cPts (peer c) (slot b hb) fullShare f
        ∗ owes (c : Thread nD τ) O₀ W
        ∗ dutyTok ER (cell c k) 0 () ∗ reached ER (cell c k) 0 ∗ dutyTok ER (cell (peer c) k') 0 () ∗ reached ER (cell (peer c) k') 0)
      ⊢ iprop(((cred (tallyAt (cell c k) () (kamt k)) ∗ owes (c : Thread nD τ) O W)
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM a ha)
                (.remote (Dev.tc n : Thread nD τ) dst sS hsc) sR hsrc hdst hsem) kk) Q) := by
  subst hn hS hR hdv
  have eA : (slotM a ha).view.set = (cM.access (slot a ha)).set := View.set_reshape _ _
  have eB : (slotM b hb).view.set = (cM.access (slot b hb)).set := View.set_reshape _ _
  have land : ((slotM b hb).view.loc (peer c : Thread nD τ) ↦[(slotM b hb).view.set]{fullShare}
      ((slotM b hb).view.write (Elt F) f ((slotM a ha).view.read (Elt F) (slotAt m c (slot a ha) w)) Finset.univ) : sProp 𝕄)
      ⊢ cPts (peer c) (slot b hb) fullShare (slotAt m (peer c) (slot b hb) w) := by
    unfold cPts
    rw [eB]
    exact Entails.of_eq (pointsTo_congr fun i hi => slot_landed m c (peer c) a b ha hb w f i hi)
  have keep : ((slotM a ha).view.loc (c : Thread nD τ) ↦[(slotM a ha).view.set]{fullShare.left} (slotAt m c (slot a ha) w) : sProp 𝕄)
      ⊢ cPts c (slot a ha) fullShare.left (slotAt m c (slot a ha) w) := by unfold cPts; rw [eA]
  have kP := payload_cell m c k ()
  have kP' := payload_cell m (peer c) k' ()
  rw [hp] at kP
  rw [hp'] at kP'
  unfold cPts
  rw [← eA, ← eB]
  exact Rounds.wp_send_pointsTo 𝒱₀ ER (talk m) (c : Thread nD τ) none (c' := (peer c : Thread nD τ)) (src := slotM a ha) (dst := slotM b hb)
    (hsc := hsc) (sS := ksem k) (sem := ksem k') (hsrc := hsrc) (hdst := hdst) (hsem := hsem) (k := kk) (Q := Q)
    (κ₁ := K (cell c k)) (κ₂ := K (cell (peer c) k'))
    (r₁ := 0) (r₂ := 0) (d₁ := ()) (d₂ := ()) (fd := f) (q := fullShare.left) (fs := slotAt m c (slot a ha) w)
    (duty_mem m c k ()) (duty_mem m (peer c) k' ()) () () (kamt k) hN (amount_cell m c k ()) ((amount_cell m (peer c) k' ()).trans hk)
    O hO (W := W)
    (keep.trans (Entails.of_eq kP.symm))
    (land.trans (Entails.of_eq kP'.symm))

/-! ## Loads and stores -/

/-- A load of the VMEM rows `r` after they landed reads the block's rows. -/
theorem wp_rows {α : Type} {Q : α → sProp 𝕄} (r : Rect S512x256) {hl : vM.view.LoadsAt r.toLoadRect}
    {kk : (r.shape.Idx → Elt F .bf16) → Prog (TpuEff nD τ sig (Elt F) Λ₀ .tc) α} :
    vPts c r (landed m c r)
      ⊢ iprop((vPts c r (landed m c r) -∗ wp frame (wpE (defs₀ (F := F)) 𝒱₀ (c : Thread nD τ) none) Set.univ (kk (rows m c r)) Q)
          -∗ wp frame (wpE (defs₀ (F := F)) 𝒱₀ (c : Thread nD τ) none) Set.univ (.op (.load vM r.toLoadRect hl) kk) Q) := by
  have h : (vM.access r).read (Elt F) (landed m c r) = rows m c r := View.read_write_univ _ _
  unfold vPts
  rw [← h]
  exact wp_load_rect 𝒱₀ (c : Thread nD τ) none Set.univ (m := vM) (r := r) subset_rfl

/-- A load of a slot, at any share of it. -/
theorem wp_slot_load {α : Type} {Q : α → sProp 𝕄} (r : Rect S2x4x128) {q : PosShare TreeShare} {f : (cc0_scratch1 : Ref sig .tc).ty.Contents (Elt F)}
    {hl : cM.view.LoadsAt r.toLoadRect} {kk : (r.shape.Idx → Elt F .bf16) → Prog (TpuEff nD τ sig (Elt F) Λ₀ .tc) α} :
    cPts c r q f
      ⊢ iprop((cPts c r q f -∗ wp frame (wpE (defs₀ (F := F)) 𝒱₀ (c : Thread nD τ) none) Set.univ (kk ((cM.access r).read (Elt F) f)) Q)
          -∗ wp frame (wpE (defs₀ (F := F)) 𝒱₀ (c : Thread nD τ) none) Set.univ (.op (.load cM r.toLoadRect hl) kk) Q) := by
  unfold cPts
  exact wp_load_rect 𝒱₀ (c : Thread nD τ) none Set.univ (m := cM) (r := r) subset_rfl

omit [FloatOps F] in
/-- A slot read after its store is what was stored. -/
theorem read_slot (r : Rect S2x4x128) (w : r.shape.Idx → Elt F .bf16) :
    (cM.access r).read (Elt F) (slotAt m c r w) = w := View.read_write_univ _ _

/-- A store of a whole slot. -/
theorem wp_slot_store {α : Type} {Q : α → sProp 𝕄} (r : Rect S2x4x128) {f : (cc0_scratch1 : Ref sig .tc).ty.Contents (Elt F)}
    {w : r.shape.Idx → Elt F .bf16} {hx : (cM.access r).Stores Finset.univ}
    {hm : (Finset.univ : Finset r.shape.Idx) = Finset.univ ∨ ∀ a, r.stride a = 1}
    {kk : PUnit → Prog (TpuEff nD τ sig (Elt F) Λ₀ .tc) α} :
    cPts c r fullShare f
      ⊢ iprop((cPts c r fullShare (slotAt m c r w) -∗ wp frame (wpE (defs₀ (F := F)) 𝒱₀ (c : Thread nD τ) none) Set.univ (kk ⟨⟩) Q)
          -∗ wp frame (wpE (defs₀ (F := F)) 𝒱₀ (c : Thread nD τ) none) Set.univ (.op (.store cM r w Finset.univ hx hm) kk) Q) := by
  have h : (((c : Thread nD τ).loc cc0_scratch1) ↦[(cM.access r).set]{fullShare} (slotAt m c r w) : sProp 𝕄)
      = ((c : Thread nD τ).loc cc0_scratch1) ↦[(cM.access r).set]{fullShare} ((cM.access r).write (Elt F) f w Finset.univ) :=
    pointsTo_congr fun i hi => write_base (cM.access r) _ _ w i hi
  unfold cPts
  rw [h]
  exact wp_store 𝒱₀ (c : Thread nD τ) none Set.univ (m := cM) (r := r) subset_rfl

/-- The output's VMEM buffer, whole. -/
def oPts (c : Dev nD) (f : (cc0_stg0_0 : Ref sig .tc).ty.Contents (Elt F)) : sProp 𝕄 :=
  ((c : Thread nD τ).loc cc0_stg0_0) ↦{fullShare} f

/-- A load of any part of the output. -/
theorem wp_out_load {α : Type} {Q : α → sProp 𝕄} (r : Rect S512) {f : (cc0_stg0_0 : Ref sig .tc).ty.Contents (Elt F)}
    {hl : oM.view.LoadsAt r.toLoadRect} {kk : (r.shape.Idx → Elt F .bf16) → Prog (TpuEff nD τ sig (Elt F) Λ₀ .tc) α} :
    oPts c f
      ⊢ iprop((oPts c f -∗ wp frame (wpE (defs₀ (F := F)) 𝒱₀ (c : Thread nD τ) none) Set.univ (kk ((oM.access r).read (Elt F) f)) Q)
          -∗ wp frame (wpE (defs₀ (F := F)) 𝒱₀ (c : Thread nD τ) none) Set.univ (.op (.load oM r.toLoadRect hl) kk) Q) := by
  unfold oPts
  exact wp_load_rect 𝒱₀ (c : Thread nD τ) none Set.univ (m := oM) (r := r) (Finset.subset_univ _)

omit [FloatOps F] in
/-- A write of the whole output leaves exactly what was written. -/
theorem write_out (f w : (cc0_stg0_0 : Ref sig .tc).ty.Contents (Elt F)) :
    (oM.access rO).write (Elt F) f w Finset.univ = w := by
  funext i
  have hi : (oM.access rO).emb i = i := by
    funext a
    apply Fin.ext
    match a with
    | 0 => show 0 + 1 * (i 0).val = (i 0).val; omega
  exact (congrArg _ hi.symm).trans (View.write_emb_of_mem (v := oM.access rO) f w (Finset.mem_univ i))

/-- A store of the whole output. -/
theorem wp_out_store {α : Type} {Q : α → sProp 𝕄} {f : (cc0_stg0_0 : Ref sig .tc).ty.Contents (Elt F)}
    {w : rO.shape.Idx → Elt F .bf16} {hx : (oM.access rO).Stores Finset.univ}
    {hm : (Finset.univ : Finset rO.shape.Idx) = Finset.univ ∨ ∀ a, rO.stride a = 1}
    {kk : PUnit → Prog (TpuEff nD τ sig (Elt F) Λ₀ .tc) α} :
    oPts c f
      ⊢ iprop((oPts c w -∗ wp frame (wpE (defs₀ (F := F)) 𝒱₀ (c : Thread nD τ) none) Set.univ (kk ⟨⟩) Q)
          -∗ wp frame (wpE (defs₀ (F := F)) 𝒱₀ (c : Thread nD τ) none) Set.univ (.op (.store oM rO w Finset.univ hx hm) kk) Q) := by
  have h : (oPts c w : sProp 𝕄) = ((c : Thread nD τ).loc cc0_stg0_0) ↦{fullShare} ((oM.access rO).write (Elt F) f w Finset.univ) := by
    rw [write_out]; rfl
  rw [h]
  exact wp_store 𝒱₀ (c : Thread nD τ) none Set.univ (m := oM) (r := rO) (Finset.subset_univ _)

end Steps

/-! ## Cutting and joining the buffers -/

section Parts

variable (c : Dev nD)

/-- The two row halves are all of the block. -/
theorem rows_cover : rX0.set ∪ rX1.set = Finset.univ := by
  ext i
  have h0 : (i 0).val < 512 := (i 0).isLt
  have h1 : (i 1).val < 256 := (i 1).isLt
  simp only [Finset.mem_union, Rect.mem_set_unit, Fin.forall_fin_two, Finset.mem_univ, iff_true]
  simp only [Matrix.cons_val_zero, Matrix.cons_val_one]
  omega
/-- And have no row in common. -/
theorem rows_disjoint : Disjoint rX0.set rX1.set := by
  rw [Finset.disjoint_left]
  intro i
  simp only [Rect.mem_set_unit, Fin.forall_fin_two]
  simp only [Matrix.cons_val_zero, Matrix.cons_val_one]
  omega

/-- The four slots are all of the communication scratch. -/
theorem slots_cover : ((rA0.set ∪ rA1.set) ∪ rB0.set) ∪ rB1.set = Finset.univ := by
  ext i
  have h0 : (i 0).val < 2 := (i 0).isLt
  have h1 : (i 1).val < 4 := (i 1).isLt
  have h2 : (i 2).val < 128 := (i 2).isLt
  simp only [Finset.mem_union, Rect.mem_set_unit, Fin.forall_fin_succ, Fin.succ_zero_eq_one, Fin.succ_one_eq_two,
    IsEmpty.forall_iff, and_true, Finset.mem_univ, iff_true]
  simp only [Matrix.cons_val_zero, Matrix.cons_val_one, Matrix.cons_val_two, Matrix.tail_cons, Matrix.head_cons]
  omega
/-- And no two of them meet. -/
theorem slots_disjoint : Disjoint rA0.set rA1.set ∧ Disjoint (rA0.set ∪ rA1.set) rB0.set ∧ Disjoint ((rA0.set ∪ rA1.set) ∪ rB0.set) rB1.set := by
  refine ⟨?_, ?_, ?_⟩ <;>
  · rw [Finset.disjoint_left]
    intro i
    simp only [Finset.mem_union, Rect.mem_set_unit, Fin.forall_fin_succ, Fin.succ_zero_eq_one, Fin.succ_one_eq_two,
      IsEmpty.forall_iff, and_true]
    simp only [Matrix.cons_val_zero, Matrix.cons_val_one, Matrix.cons_val_two, Matrix.tail_cons, Matrix.head_cons]
    omega

omit [FloatOps F] in
/-- The block as its two row halves. -/
theorem x_cut : (((c : Thread nD τ).loc main_arg0) ↦{fullShare} (m ((c : Thread nD τ).loc main_arg0)) : sProp 𝕄)
    ⊣⊢ iprop(xPts m c rX0 ∗ xPts m c rX1) := by
  have h := pointsTo_union (Name := ℕ) (U := UU) (Lvl := ℕ) (Ix := Unit) (q := fullShare) (f := m ((c : Thread nD τ).loc main_arg0)) (ℓ := (c : Thread nD τ).loc main_arg0) rows_disjoint
  rw [rows_cover] at h
  unfold xPts
  rw [View.set_slice_whole, View.set_slice_whole]
  exact h

omit [FloatOps F] in
/-- The VMEM copy, cut into its row halves. -/
theorem v_cut (f : (cc0_scratch0 : Ref sig .tc).ty.Contents (Elt F)) :
    (((c : Thread nD τ).loc cc0_scratch0) ↦{fullShare} f : sProp 𝕄) ⊢ iprop(vPts c rX0 f ∗ vPts c rX1 f) := by
  have h := pointsTo_union (Name := ℕ) (U := UU) (Lvl := ℕ) (Ix := Unit) (q := fullShare) (f := f) (ℓ := (c : Thread nD τ).loc cc0_scratch0) rows_disjoint
  rw [rows_cover] at h
  unfold vPts
  rw [View.set_slice_whole, View.set_slice_whole]
  exact h.1
omit [FloatOps F] in
/-- And put together again, at some contents. -/
theorem v_join (f g : (cc0_scratch0 : Ref sig .tc).ty.Contents (Elt F)) :
    iprop(vPts c rX0 f ∗ vPts c rX1 g) ⊢ (∃ f, ((c : Thread nD τ).loc cc0_scratch0) ↦{fullShare} f : sProp 𝕄) := by
  have h := pointsTo_join (Name := ℕ) (U := UU) (Lvl := ℕ) (Ix := Unit) (q := fullShare) (f := f) (g := g) (ℓ := (c : Thread nD τ).loc cc0_scratch0) rows_disjoint
  rw [rows_cover] at h
  unfold vPts
  rw [View.set_slice_whole, View.set_slice_whole]
  iintro H
  iexists _
  iapply h
  iexact H

omit [FloatOps F] in
/-- The communication scratch as its four slots. -/
theorem c_cut (f : (cc0_scratch1 : Ref sig .tc).ty.Contents (Elt F)) :
    (((c : Thread nD τ).loc cc0_scratch1) ↦{fullShare} f : sProp 𝕄)
      ⊢ iprop(((cPts c rA0 fullShare f ∗ cPts c rA1 fullShare f) ∗ cPts c rB0 fullShare f) ∗ cPts c rB1 fullShare f) := by
  have h1 := pointsTo_union (Name := ℕ) (U := UU) (Lvl := ℕ) (Ix := Unit) (q := fullShare) (f := f) (ℓ := (c : Thread nD τ).loc cc0_scratch1) slots_disjoint.1
  have h2 := pointsTo_union (Name := ℕ) (U := UU) (Lvl := ℕ) (Ix := Unit) (q := fullShare) (f := f) (ℓ := (c : Thread nD τ).loc cc0_scratch1) slots_disjoint.2.1
  have h3 := pointsTo_union (Name := ℕ) (U := UU) (Lvl := ℕ) (Ix := Unit) (q := fullShare) (f := f) (ℓ := (c : Thread nD τ).loc cc0_scratch1) slots_disjoint.2.2
  rw [slots_cover] at h3
  unfold cPts
  rw [View.set_slice_whole, View.set_slice_whole, View.set_slice_whole, View.set_slice_whole]
  exact h3.1.trans (sep_mono_left (h2.1.trans (sep_mono_left h1.1)))
omit [FloatOps F] in
/-- The four slots, put together at some contents. -/
theorem c_join (f0 f1 g0 g1 : (cc0_scratch1 : Ref sig .tc).ty.Contents (Elt F)) :
    iprop(((cPts c rA0 fullShare f0 ∗ cPts c rA1 fullShare f1) ∗ cPts c rB0 fullShare g0) ∗ cPts c rB1 fullShare g1)
      ⊢ (∃ f, ((c : Thread nD τ).loc cc0_scratch1) ↦{fullShare} f : sProp 𝕄) := by
  have h1 := fun (f g : (cc0_scratch1 : Ref sig .tc).ty.Contents (Elt F)) => pointsTo_join (Name := ℕ) (U := UU) (Lvl := ℕ) (Ix := Unit) (q := fullShare) (f := f) (g := g) (ℓ := (c : Thread nD τ).loc cc0_scratch1) slots_disjoint.1
  have h2 := fun (f g : (cc0_scratch1 : Ref sig .tc).ty.Contents (Elt F)) => pointsTo_join (Name := ℕ) (U := UU) (Lvl := ℕ) (Ix := Unit) (q := fullShare) (f := f) (g := g) (ℓ := (c : Thread nD τ).loc cc0_scratch1) slots_disjoint.2.1
  have h3 := fun (f g : (cc0_scratch1 : Ref sig .tc).ty.Contents (Elt F)) => pointsTo_join (Name := ℕ) (U := UU) (Lvl := ℕ) (Ix := Unit) (q := fullShare) (f := f) (g := g) (ℓ := (c : Thread nD τ).loc cc0_scratch1) slots_disjoint.2.2
  rw [slots_cover] at h3
  unfold cPts
  rw [View.set_slice_whole, View.set_slice_whole, View.set_slice_whole, View.set_slice_whole]
  iintro H
  iexists _
  iapply (h3 _ g1)
  icases H with ⟨H, Hd⟩
  isplitl [H]
  · iapply (h2 _ g0)
    icases H with ⟨H, Hc⟩
    isplitl [H]; · iapply (h1 f0 f1); iexact H
    iexact Hc
  · iexact Hd

omit [FloatOps F] in
/-- A slot's two half shares. -/
theorem c_halves (r : Rect S2x4x128) (f : (cc0_scratch1 : Ref sig .tc).ty.Contents (Elt F)) :
    (cPts c r fullShare f : sProp 𝕄) ⊣⊢ iprop(cPts c r fullShare.left f ∗ cPts c r fullShare.right f) := by
  unfold cPts
  exact pointsTo_share (PosShare.mem_left_op_right fullShare)

end Parts

end Cert.RowMax
-- ==== Proof.Body.lean ====
/-
  One device's run of the kernel, part by part as the program is printed, over the schedule of `Protocol`.
-/
module

public import proofs.«01_k».proof.Proof.Steps
public import Idealize.ShloMosaic.Lib.Pipeline.Value

@[expose] public section

noncomputable section

namespace Cert.RowMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells' invariants -/

/-- The cells whose counters the launch holds, and those whose counters the region allocates. -/
def barEmb : Dev nD ↪ GSem nD τ sig := ⟨fun c => cell c 0, fun _ _ h => congrArg (fun g : GSem nD τ sig => g.1.1) h⟩
/-- The six own cells of every device, as an embedding of their names. -/
def scEmb : Dev nD × Fin 6 ↪ GSem nD τ sig :=
  ⟨fun ck => cell ck.1 ck.2.succ, fun _ _ h =>
    Prod.ext (congrArg (fun g : GSem nD τ sig => g.1.1) h) (Fin.succ_injective _ (ksem_injective (congrArg Prod.snd h)))⟩
/-- The barrier cells. -/
abbrev barCells : Finset (GSem nD τ sig) := Finset.univ.map barEmb
abbrev scCells : Finset (GSem nD τ sig) := Finset.univ.map scEmb

/-- Each of a device's seven cells is one of the cells of the talk. -/
theorem cell_mem (c : Dev nD) (k : Fin 7) : cell c k ∈ (barCells ∪ scCells : Finset (GSem nD τ sig)) := by
  refine Fin.cases ?_ (fun i => ?_) k
  · exact Finset.mem_union_left _ (Finset.mem_map_of_mem barEmb (Finset.mem_univ c))
  · exact Finset.mem_union_right _ (Finset.mem_map_of_mem scEmb (Finset.mem_univ (c, i)))

/-- Every cell's invariant, under the names `K`. -/
def invs (K : GSem nD τ sig → ℕ) : sProp 𝕄 := bigSep (barCells ∪ scCells) fun g => cellInv ER (talk m) (K g) g

instance invs_persistent (K : GSem nD τ sig → ℕ) : BI.Persistent (invs m K) := by unfold invs; infer_instance

/-- One cell's invariant out of all of them. -/
theorem inv_at (K : GSem nD τ sig → ℕ) (c : Dev nD) (k : Fin 7) : invs m K ⊢ cellInv ER (talk m) (K (cell c k)) (cell c k) :=
  bigSep_elim (cell_mem c k)

/-! ## The parts -/

section Run

variable (K : GSem nD τ sig → ℕ) (c : Dev nD)

/-- The first part of the body on this kernel's buffers, and below the three after it. -/
abbrev run1 : Prog (TpuEff nD τ sig (Elt F) Λ₀ .tc) (Σ' (d0 : Dev nD) (v2 : BitVec 32) (v6 : BitVec 32) (v7 : Sems sig S_), FVec F S2x128 .bf16) :=
  k0_part1 (F := F) xM (Memref.isWhole_whole _) oM (Memref.isWhole_whole _) vM (Memref.isWhole_whole _) cM (Memref.isWhole_whole _) cc0_scratch2 cc0_scratch3 cc0_scratch4
abbrev run2 (d0 : Dev nD) (v2 v6 : BitVec 32) (v26 : FVec F S2x128 .bf16) : Prog (TpuEff nD τ sig (Elt F) Λ₀ .tc) PUnit :=
  k0_part2 (F := F) xM (Memref.isWhole_whole _) oM (Memref.isWhole_whole _) vM (Memref.isWhole_whole _) cM (Memref.isWhole_whole _) cc0_scratch2 cc0_scratch3 cc0_scratch4
    d0 v2 v6 (SemArray.scalar (sig.barrier 0 rfl)) v26
abbrev run3 (d0 : Dev nD) (v2 v6 : BitVec 32) : Prog (TpuEff nD τ sig (Elt F) Λ₀ .tc) (FVec F S512 .bf16) :=
  k0_part3 (F := F) xM (Memref.isWhole_whole _) oM (Memref.isWhole_whole _) vM (Memref.isWhole_whole _) cM (Memref.isWhole_whole _) cc0_scratch2 cc0_scratch3 cc0_scratch4
    d0 v2 v6
abbrev run4 (v2 v6 : BitVec 32) (v82 : FVec F S512 .bf16) : Prog (TpuEff nD τ sig (Elt F) Λ₀ .tc) PUnit :=
  k0_part4 (F := F) xM (Memref.isWhole_whole _) oM (Memref.isWhole_whole _) vM (Memref.isWhole_whole _) cM (Memref.isWhole_whole _) cc0_scratch2 cc0_scratch3 cc0_scratch4
    v2 v6 v82

/-- Before the first part: everything owed, the token of the neighbour's barrier, the landing slots, and each half of the block with its copy's token. -/
def pre1 (W : Waits sig Unit) : sProp 𝕄 :=
  iprop(invs m K ∗ levAts L lv ∗ owes (c : Thread nD τ) (O₀ c) W
    ∗ (dutyTok ER (cell (peer c) 0) 0 () ∗ reached ER (cell (peer c) 0) 0)
    ∗ ((∃ f, cPts c rB0 fullShare f) ∗ (∃ f, cPts c rB1 fullShare f) ∗ reached ER (cell c 5) 0 ∗ reached ER (cell c 6) 0)
    ∗ (xPts m c rX0 ∗ (∃ f, vPts c rX0 f) ∗ dutyTok ER (cell c 1) 0 () ∗ reached ER (cell c 1) 0)
    ∗ (xPts m c rX1 ∗ (∃ f, vPts c rX1 f) ∗ dutyTok ER (cell c 2) 0 () ∗ reached ER (cell c 2) 0)
    ∗ atPos ER (cell c 1) 0 ∅ 0)
/-- After the first part: the signal is paid, and the first half of the rows has landed. -/
def post1 : sProp 𝕄 :=
  iprop((∃ W, owes (c : Thread nD τ) (O1 c) W) ∗ cred (tallyAt (cell c 2) () Nx1)
    ∗ atPos ER (cell c 1) 1 ∅ 0 ∗ vPts c rX0 (landed m c rX0) ∗ xPts m c rX0)

set_option maxHeartbeats 1600000 in
/-- Signal the neighbour, start both copies, and wait for the first. -/
theorem sound1 (W : Waits sig Unit) (Q : _ → sProp 𝕄) :
    iprop(pre1 m K c W ∗ (∀ v2 v6, post1 m c -∗ Q ⟨c, v2, v6, SemArray.scalar (sig.barrier 0 rfl), k0_pay1 (rows m c rX0)⟩))
      ⊢ wp frame (wpE (defs₀ (F := F)) 𝒱₀ c none) Set.univ run1 Q := by
  unfold run1
  simp only [k0_part1_eq_skeleton]; unfold k0_part1_skel
  simp only [semSignalWord, semWaitWord, Prog.lift, Prog.bind_op, Prog.bind_ret, Prog.pure_eq_ret, wp_deviceId]
  unfold pre1
  iintro ⟨⟨#HI, #Hlev, HO, ⟨HtP, #HrP⟩, HB, ⟨Hx0, ⟨%f0, Hv0⟩, Ht0, #Hr0⟩, ⟨Hx1, ⟨%f1, Hv1⟩, Ht1, #Hr1⟩, Hat⟩, Hk⟩
  iapply (Rounds.wp_signal 𝒱₀ ER (talk m) (c : Thread nD τ) none (dst := (peer c : Thread nD τ)) (κ := K (cell (peer c) 0))
      (duty_mem m (peer c) 0 ()) ((amount_cell m (peer c) 0 ()).trans (by decide)) () (O1 c) rfl) $$ [HO HtP HB]
  · isplitr; · iapply (inv_at m K (peer c) 0); iexact HI
    isplitl [HO]; · iexact HO
    isplitl [HtP]; · iexact HtP
    isplitl [HB]
    · iapply (Entails.of_eq (payload_cell m (peer c) 0 ()).symm)
      unfold kpay barPay
      rw [peer_peer]
      iexact HB
    · iexact HrP
  iintro HO
  iapply (wp_fetch m K c 1 _ rfl rX0 (fun _ => rfl) rfl rfl _ _ _ f0) $$ [Hx0 Hv0 Ht0]
  · isplitr; · iapply (inv_at m K c 1); iexact HI
    isplitl [Hx0]; · iexact Hx0
    isplitl [Hv0]; · iexact Hv0
    isplitl [Ht0]; · iexact Ht0
    iexact Hr0
  iintro Hc0
  iapply (wp_fetch m K c 2 _ rfl rX1 (fun _ => rfl) rfl rfl _ _ _ f1) $$ [Hx1 Hv1 Ht1]
  · isplitr; · iapply (inv_at m K c 2); iexact HI
    isplitl [Hx1]; · iexact Hx1
    isplitl [Hv1]; · iexact Hv1
    isplitl [Ht1]; · iexact Ht1
    iexact Hr1
  iintro Hc1
  iapply (wp_arrive m K c 1 _ rfl xS0 vS0 _ _ rfl (O1 c) W) $$ [Hc0 HO Hat]
  · isplitr; · iapply (inv_at m K c 1); iexact HI
    isplitl [Hc0]; · iexact Hc0
    isplitl [HO]; · iexact HO
    isplitr; · iapply (mayWait_O1 c 1 (by decide)); iexact Hlev
    iexact Hat
  iintro ⟨HO, Hat, Hp⟩
  unfold kpay inPay
  icases Hp with ⟨Hv0, Hx0⟩
  iapply (wp_rows m c rX0) $$ Hv0
  iintro Hv0
  rw [wp_ret]
  imodintro
  iapply Hk
  unfold post1
  isplitl [HO]; · iexact HO
  isplitl [Hc1]; · iexact Hc1
  isplitl [Hat]; · iexact Hat
  isplitl [Hv0] <;> iassumption

/-- Before the second part: the tokens of the first transfer, the credit of the barrier and of the second copy, and the device's own slots. -/
def pre2 (W : Waits sig Unit) : sProp 𝕄 :=
  iprop(invs m K ∗ levAts L lv ∗ owes (c : Thread nD τ) (O1 c) W
    ∗ ((∃ f, cPts c rA0 fullShare f) ∗ dutyTok ER (cell c 3) 0 () ∗ reached ER (cell c 3) 0 ∗ dutyTok ER (cell (peer c) 5) 0 ())
    ∗ (cred (tallyAt (cell c 0) () 1) ∗ atPos ER (cell c 0) 0 ∅ 0)
    ∗ (cred (tallyAt (cell c 2) () Nx1) ∗ atPos ER (cell c 2) 0 ∅ 0)
    ∗ ∃ f, cPts c rA1 fullShare f)
/-- After the second part: the first transfer is under way, the neighbour's second slot is at hand, and the second half's maxima are stored. -/
def post2 : sProp 𝕄 :=
  iprop((∃ W, owes (c : Thread nD τ) (O2 c) W) ∗ atPos ER (cell c 0) 1 ∅ 0 ∗ atPos ER (cell c 2) 1 ∅ 0
    ∗ (cPts c rA0 fullShare.right (slotAt m c rA0 (part0 m c)) ∗ cred (tallyAt (cell c 3) () Nc0))
    ∗ ((∃ f, cPts (peer c) rB1 fullShare f) ∗ reached ER (cell (peer c) 6) 0)
    ∗ (vPts c rX1 (landed m c rX1) ∗ xPts m c rX1)
    ∗ cPts c rA1 fullShare (slotAt m c rA1 (part1 m c)))

set_option maxHeartbeats 1600000 in
/-- Wait for the neighbour, pass it the first maxima, and take the second. -/
theorem sound2 (W : Waits sig Unit) (v2 v6 : BitVec 32) (Q : _ → sProp 𝕄) :
    iprop(pre2 m K c W ∗ (post2 m c -∗ Q ⟨⟩))
      ⊢ wp frame (wpE (defs₀ (F := F)) 𝒱₀ c none) Set.univ (run2 c v2 v6 (k0_pay1 (rows m c rX0))) Q := by
  unfold run2
  simp only [k0_part2_eq_skeleton]; unfold k0_part2_skel
  simp only [semSignalWord, semWaitWord, Prog.lift, Prog.bind_op, Prog.bind_ret, Prog.pure_eq_ret, wp_deviceId]
  unfold pre2
  iintro ⟨⟨#HI, #Hlev, HO, ⟨⟨%f0, HA0⟩, HtS, #HrS, HtR⟩, ⟨HcB, HatB⟩, ⟨Hc1, Hat1⟩, ⟨%f1, HA1⟩⟩, Hk⟩
  iapply (wp_slot_load c rA0) $$ HA0
  iintro HA0
  iapply (wp_slot_store m c rA0 (w := part0 m c)) $$ HA0
  iintro HA0
  iapply (Rounds.wp_wait_rest_token 𝒱₀ ER (talk m) (c : Thread nD τ) none (κ := K (cell c 0))
      (wpE_semWait_eq 𝒱₀ (c : Thread nD τ) none Set.univ) (Set.mem_univ _) () (O := O1 c) (W := W) (R := 0) (m := 0) (T := ∅)
      ((Nat.zero_add _).trans (Eq.trans (by decide) (expect_cell m c 0).symm))) $$ [HcB HO HatB]
  · isplitr; · iapply (inv_at m K c 0); iexact HI
    isplitl [HcB]; · iexact HcB
    isplitl [HO]; · iexact HO
    isplitr; · iapply (mayWait_O1 c 0 (by decide)); iexact Hlev
    iexact HatB
  iintro ⟨HO, HatB, -, Hpay⟩
  ihave Hp := (Entails.of_eq (rest_cell m c 0)) $$ Hpay
  unfold kpay barPay
  icases Hp with ⟨⟨%g0, HB0⟩, HB1, #HrR0, #HrR1⟩
  ihave HA := (c_halves c rA0 (slotAt m c rA0 (part0 m c))).1 $$ HA0
  icases HA with ⟨HAl, HAr⟩
  iapply (wp_pass m K c 3 5 _ _ rfl rfl _ (peer_dev2 c) ![0, 0, 0] ![1, 0, 0] inb_S2x4x128_S1x2x128_0_0_0 inb_S2x4x128_S1x2x128_1_0_0
      (part0 m c) _ rfl rfl rfl rfl (by show cPts (peer c) rB0 fullShare (slotAt m (peer c) rB0 (part0 m (peer (peer c)))) = _; rw [peer_peer])
      (O1 c) (O2 c) rfl _ _ _ _ g0 _) $$ [HAl HB0 HO HtS HtR]
  · isplitr; · iapply (inv_at m K c 3); iexact HI
    isplitr; · iapply (inv_at m K (peer c) 5); iexact HI
    isplitl [HAl]; · iexact HAl
    isplitl [HB0]; · iexact HB0
    isplitl [HO]; · iexact HO
    isplitl [HtS]; · iexact HtS
    isplitr; · iexact HrS
    isplitl [HtR]; · iexact HtR
    iexact HrR0
  iintro ⟨HcS, HO⟩
  iapply (wp_arrive m K c 2 _ rfl xS1 vS1 _ _ rfl (O2 c) _) $$ [Hc1 HO Hat1]
  · isplitr; · iapply (inv_at m K c 2); iexact HI
    isplitl [Hc1]; · iexact Hc1
    isplitl [HO]; · iexact HO
    isplitr; · iapply (mayWait_O2 c 2 (by decide)); iexact Hlev
    iexact Hat1
  iintro ⟨HO, Hat1, Hp⟩
  unfold kpay inPay
  icases Hp with ⟨Hv1, Hx1⟩
  iapply (wp_rows m c rX1) $$ Hv1
  iintro Hv1
  iapply (wp_slot_load c rA1) $$ HA1
  iintro HA1
  iapply (wp_slot_store m c rA1 (w := part1 m c)) $$ HA1
  iintro HA1
  rw [wp_ret]
  imodintro
  iapply Hk
  unfold post2
  isplitl [HO]; · iexact HO
  isplitl [HatB]; · iexact HatB
  isplitl [Hat1]; · iexact Hat1
  isplitl [HAr HcS]; · isplitl [HAr] <;> iassumption
  isplitl [HB1]
  · isplitl [HB1]; · iexact HB1
    iexact HrR1
  isplitl [Hv1 Hx1]; · isplitl [Hv1] <;> iassumption
  iexact HA1

/-- Before the third part: the second slot with its transfer's tokens, the credit of the first receive, and the output at `g`. -/
def pre3 (W : Waits sig Unit) (g : (cc0_stg0_0 : Ref sig .tc).ty.Contents (Elt F)) : sProp 𝕄 :=
  iprop(invs m K ∗ owes (c : Thread nD τ) (O2 c) W
    ∗ (cPts c rA1 fullShare (slotAt m c rA1 (part1 m c)) ∗ dutyTok ER (cell c 4) 0 () ∗ reached ER (cell c 4) 0
      ∗ dutyTok ER (cell (peer c) 6) 0 () ∗ reached ER (cell (peer c) 6) 0 ∗ ∃ f, cPts (peer c) rB1 fullShare f)
    ∗ (cred (tallyAt (cell c 5) () Nc0) ∗ atPos ER (cell c 5) 0 ∅ 0)
    ∗ cPts c rA0 fullShare.right (slotAt m c rA0 (part0 m c))
    ∗ oPts c g)
/-- After the third part: nothing is owed, the second transfer is under way, and the neighbour's first maxima have landed. -/
def post3 (g : (cc0_stg0_0 : Ref sig .tc).ty.Contents (Elt F)) : sProp 𝕄 :=
  iprop((∃ W, owes (c : Thread nD τ) 0 W) ∗ atPos ER (cell c 5) 1 ∅ 0
    ∗ (cPts c rA1 fullShare.right (slotAt m c rA1 (part1 m c)) ∗ cred (tallyAt (cell c 4) () Nc1))
    ∗ cPts c rA0 fullShare.right (slotAt m c rA0 (part0 m c)) ∗ cPts c rB0 fullShare (slotAt m c rB0 (part0 m (peer c)))
    ∗ oPts c g)

set_option maxHeartbeats 1600000 in
/-- Pass the second maxima, wait for the neighbour's first, and join them with the own ones. -/
theorem sound3 (W : Waits sig Unit) (g : (cc0_stg0_0 : Ref sig .tc).ty.Contents (Elt F)) (v2 v6 : BitVec 32) (Q : _ → sProp 𝕄) :
    iprop(pre3 m K c W g ∗ (post3 m c g -∗ Q (k0_pay4 (part0 m c) (part0 m (peer c)) ((oM.access rO1).read (Elt F) g))))
      ⊢ wp frame (wpE (defs₀ (F := F)) 𝒱₀ c none) Set.univ (run3 c v2 v6) Q := by
  unfold run3
  simp only [k0_part3_eq_skeleton]; unfold k0_part3_skel
  simp only [semSignalWord, semWaitWord, Prog.lift, Prog.bind_op, Prog.bind_ret, Prog.pure_eq_ret, wp_deviceId]
  unfold pre3
  iintro ⟨⟨#HI, HO, ⟨HA1, HtS, #HrS, HtR, #HrR, ⟨%g1, HB1⟩⟩, ⟨HcR, HatR⟩, HA0, Ho⟩, Hk⟩
  ihave HA := (c_halves c rA1 (slotAt m c rA1 (part1 m c))).1 $$ HA1
  icases HA with ⟨HAl, HAr⟩
  iapply (wp_pass m K c 4 6 _ _ rfl rfl _ (peer_dev3 c) ![0, 2, 0] ![1, 2, 0] inb_S2x4x128_S1x2x128_0_2_0 inb_S2x4x128_S1x2x128_1_2_0
      (part1 m c) _ rfl rfl rfl rfl (by show cPts (peer c) rB1 fullShare (slotAt m (peer c) rB1 (part1 m (peer (peer c)))) = _; rw [peer_peer])
      (O2 c) 0 (zero_add _).symm _ _ _ _ g1 _) $$ [HAl HB1 HO HtS HtR]
  · isplitr; · iapply (inv_at m K c 4); iexact HI
    isplitr; · iapply (inv_at m K (peer c) 6); iexact HI
    isplitl [HAl]; · iexact HAl
    isplitl [HB1]; · iexact HB1
    isplitl [HO]; · iexact HO
    isplitl [HtS]; · iexact HtS
    isplitr; · iexact HrS
    isplitl [HtR]; · iexact HtR
    iexact HrR
  iintro ⟨HcS, HO⟩
  iapply (wp_arrive m K c 5 _ rfl aS0 bS0 _ _ rfl 0 _) $$ [HcR HO HatR]
  · isplitr; · iapply (inv_at m K c 5); iexact HI
    isplitl [HcR]; · iexact HcR
    isplitl [HO]; · iexact HO
    isplitr; · rw [MayWait_zero]; iempintro
    iexact HatR
  iintro ⟨HO, HatR, HB0⟩
  unfold kpay
  iapply (wp_slot_load c rA0) $$ HA0
  iintro HA0
  rw [read_slot]
  iapply (wp_slot_load c rB0) $$ HB0
  iintro HB0
  rw [read_slot]
  iapply (wp_out_load c rO1) $$ Ho
  iintro Ho
  iapply (wp_out_load c rO) $$ Ho
  iintro Ho
  rw [wp_ret]
  imodintro
  iapply Hk
  unfold post3
  isplitl [HO]; · iexact HO
  isplitl [HatR]; · iexact HatR
  isplitl [HAr HcS]; · isplitl [HAr] <;> iassumption
  isplitl [HA0]; · iexact HA0
  isplitl [HB0] <;> iassumption

/-- Before the fourth part: the output at anything, and the credits of the second receive and of the first send. -/
def pre4 (W : Waits sig Unit) : sProp 𝕄 :=
  iprop(invs m K ∗ owes (c : Thread nD τ) 0 W ∗ (∃ g, oPts c g)
    ∗ (cred (tallyAt (cell c 6) () Nc1) ∗ atPos ER (cell c 6) 0 ∅ 0)
    ∗ (cred (tallyAt (cell c 3) () Nc0) ∗ atPos ER (cell c 3) 0 ∅ 0)
    ∗ cPts c rA1 fullShare.right (slotAt m c rA1 (part1 m c)))
/-- After the fourth part: the output holds its end result, the first slot is whole again, and the neighbour's second maxima have landed. -/
def post4 (w : FVec F S512 .bf16) : sProp 𝕄 :=
  iprop((∃ W, owes (c : Thread nD τ) 0 W) ∗ oPts c (k0_pay5 (part1 m c) (part1 m (peer c)) ((oM.access rO0).read (Elt F) w))
    ∗ atPos ER (cell c 6) 1 ∅ 0 ∗ atPos ER (cell c 3) 1 ∅ 0
    ∗ cPts c rA0 fullShare.left (slotAt m c rA0 (part0 m c))
    ∗ cPts c rA1 fullShare.right (slotAt m c rA1 (part1 m c)) ∗ cPts c rB1 fullShare (slotAt m c rB1 (part1 m (peer c))))

set_option maxHeartbeats 1600000 in
/-- Store the first joined maxima, wait for the neighbour's second, join and store them, and take back the first slot. -/
theorem sound4 (W : Waits sig Unit) (w : FVec F S512 .bf16) (v2 v6 : BitVec 32) (Q : _ → sProp 𝕄) :
    iprop(pre4 m K c W ∗ (post4 m c w -∗ Q ⟨⟩))
      ⊢ wp frame (wpE (defs₀ (F := F)) 𝒱₀ c none) Set.univ (run4 v2 v6 w) Q := by
  unfold run4
  simp only [k0_part4_eq_skeleton]; unfold k0_part4_skel
  simp only [semSignalWord, semWaitWord, Prog.lift, Prog.bind_op, Prog.bind_ret, Prog.pure_eq_ret, wp_deviceId]
  unfold pre4
  iintro ⟨⟨#HI, HO, ⟨%g, Ho⟩, ⟨HcR, HatR⟩, ⟨HcS, HatS⟩, HA1⟩, Hk⟩
  iapply (wp_out_store c (w := w)) $$ Ho
  iintro Ho
  iapply (wp_arrive m K c 6 _ rfl aS1 bS1 _ _ rfl 0 _) $$ [HcR HO HatR]
  · isplitr; · iapply (inv_at m K c 6); iexact HI
    isplitl [HcR]; · iexact HcR
    isplitl [HO]; · iexact HO
    isplitr; · rw [MayWait_zero]; iempintro
    iexact HatR
  iintro ⟨⟨%W', HO⟩, HatR, HB1⟩
  unfold kpay
  iapply (wp_slot_load c rA1) $$ HA1
  iintro HA1
  rw [read_slot]
  iapply (wp_slot_load c rB1) $$ HB1
  iintro HB1
  rw [read_slot]
  iapply (wp_out_load c rO0) $$ Ho
  iintro Ho
  iapply (wp_out_load c rO) $$ Ho
  iintro Ho
  iapply (wp_out_store c) $$ Ho
  iintro Ho
  iapply (wp_arrive m K c 3 _ rfl bS0 aS0 _ _ rfl 0 _) $$ [HcS HO HatS]
  · isplitr; · iapply (inv_at m K c 3); iexact HI
    isplitl [HcS]; · iexact HcS
    isplitl [HO]; · iexact HO
    isplitr; · rw [MayWait_zero]; iempintro
    iexact HatS
  iintro ⟨HO, HatS, HA0⟩
  unfold kpay
  rw [wp_ret]
  imodintro
  iapply Hk
  unfold post4
  isplitl [HO]; · iexact HO
  isplitl [Ho]; · iexact Ho
  isplitl [HatR]; · iexact HatR
  isplitl [HatS]; · iexact HatS
  isplitl [HA0]; · iexact HA0
  isplitl [HA1] <;> iassumption

/-! ## The whole run -/

/-- The maxima of 256 rows over all 512 columns, from the device's own slot and the neighbour's. -/
def joined (a b : Vec F S1x2x128 .bf16) : FVec F S256 .bf16 :=
  shapeCast S256 (maximumf (shapeCast S2x128 a shapeCasts_S1x2x128_S2x128 : FVec F S2x128 .bf16) (shapeCast S2x128 b shapeCasts_S1x2x128_S2x128))
    shapeCasts_S2x128_S256

/-- The first half of what the kernel stores first does not depend on what the output held. -/
theorem first_half (a b : Vec F S1x2x128 .bf16) (j : Vec F S256 .bf16) :
    (oM.access rO0).read (Elt F) (k0_pay4 a b j) = joined a b := by
  funext i
  show k0_pay4 a b j ((oM.access rO0).emb i) = joined a b i
  unfold k0_pay4
  refine concatenate_pair_apply_left 0 _ _ concatenates_S256_S256_S512_d0 ((oM.access rO0).emb i) rfl i fun d => ?_
  match d with
  | 0 => show (i 0).val = 0 + 1 * (i 0).val; omega

/-- What device `c` leaves in its output. -/
def outAt : FVec F S512 .bf16 := k0_pay5 (part1 m c) (part1 m (peer c)) (joined (part0 m c) (part0 m (peer c)))

/-- The body whole. -/
abbrev runAll : Prog (TpuEff nD τ sig (Elt F) Λ₀ .tc) PUnit :=
  cc0_body (F := F) xM (Memref.isWhole_whole _) oM (Memref.isWhole_whole _) vM (Memref.isWhole_whole _) cM (Memref.isWhole_whole _) cc0_scratch2 cc0_scratch3 cc0_scratch4

/-- The device's positions at its cells, and that its own cells are open. -/
def posns : sProp 𝕄 :=
  iprop(atPos ER (cell c 0) 0 ∅ 0 ∗ (atPos ER (cell c 1) 0 ∅ 0 ∗ reached ER (cell c 1) 0) ∗ (atPos ER (cell c 2) 0 ∅ 0 ∗ reached ER (cell c 2) 0)
    ∗ (atPos ER (cell c 3) 0 ∅ 0 ∗ reached ER (cell c 3) 0) ∗ (atPos ER (cell c 4) 0 ∅ 0 ∗ reached ER (cell c 4) 0)
    ∗ (atPos ER (cell c 5) 0 ∅ 0 ∗ reached ER (cell c 5) 0) ∗ (atPos ER (cell c 6) 0 ∅ 0 ∗ reached ER (cell c 6) 0))
/-- The tokens of the duties that the device pays. -/
def payToks : sProp 𝕄 :=
  iprop(dutyTok ER (cell (peer c) 0) 0 () ∗ dutyTok ER (cell c 1) 0 () ∗ dutyTok ER (cell c 2) 0 () ∗ dutyTok ER (cell c 3) 0 ()
    ∗ dutyTok ER (cell c 4) 0 () ∗ dutyTok ER (cell (peer c) 5) 0 () ∗ dutyTok ER (cell (peer c) 6) 0 ())
/-- The credit for what the neighbour owes the device. -/
def creds : sProp 𝕄 :=
  iprop(cred (tallyAt (cell c 0) () 1) ∗ cred (tallyAt (cell c 5) () Nc0) ∗ cred (tallyAt (cell c 6) () Nc1))
/-- Both scratch buffers, at any contents. -/
def scratch : sProp 𝕄 :=
  iprop((∃ f, ((c : Thread nD τ).loc cc0_scratch0) ↦{fullShare} f) ∗ (∃ f, ((c : Thread nD τ).loc cc0_scratch1) ↦{fullShare} f))
/-- The block, as at launch. -/
def block : sProp 𝕄 := ((c : Thread nD τ).loc main_arg0) ↦{fullShare} (m ((c : Thread nD τ).loc main_arg0))
/-- The counters of the device's DMA cells, at zero. -/
def semsZero : sProp 𝕄 :=
  iprop(semVal (cell c 1) 0 ∗ semVal (cell c 2) 0 ∗ semVal (cell c 3) 0 ∗ semVal (cell c 4) 0 ∗ semVal (cell c 5) 0 ∗ semVal (cell c 6) 0)

/-- What the body starts from. -/
def preAll (W : Waits sig Unit) : sProp 𝕄 :=
  iprop((invs m K ∗ posns c ∗ reached ER (cell (peer c) 0) 0 ∗ payToks c) ∗ creds c ∗ levAts L lv ∗ scratch c ∗ block m c
    ∗ (∃ g, oPts c g) ∗ owes (c : Thread nD τ) (O₀ c) W)
/-- What the body ends with. -/
def postAll : sProp 𝕄 :=
  iprop(semVal (cell c 0) 0 ∗ semsZero c ∗ scratch c ∗ block m c ∗ oPts c (outAt m c) ∗ ∃ W, owes (c : Thread nD τ) 0 W)

/-- A cell whose one round has passed gives its counter back at zero. -/
theorem shut (k : Fin 7) : iprop(invs m K ∗ atPos ER (cell c k) 1 ∅ 0) ⊢ (|={Set.univ}=> semVal (cell c k) 0 : sProp 𝕄) := by
  iintro ⟨#HI, Hat⟩
  iapply (Rounds.cell_close ER (talk m) (Set.mem_univ (K (cell c k))) (fun h => h) (duties_later m (cell c k)))
  isplitr; · iapply (inv_at m K c k); iexact HI
  iexact Hat

set_option maxHeartbeats 1600000 in
/-- The kernel on one device: it ends with its output at `outAt`, its block untouched and every counter at zero. -/
theorem sound (W : Waits sig Unit) (Q : PUnit → sProp 𝕄) :
    iprop(preAll m K c W ∗ (postAll m c -∗ Q ⟨⟩))
      ⊢ wp frame (wpE (defs₀ (F := F)) 𝒱₀ c none) Set.univ runAll Q := by
  unfold runAll
  simp only [cc0_body_eq_skeleton]; unfold cc0_body_skel
  simp only [wp_bind]
  unfold preAll posns payToks creds scratch block
  iintro ⟨⟨⟨#HI, ⟨Hat0, ⟨Hat1, #Hr1⟩, ⟨Hat2, #Hr2⟩, ⟨Hat3, #Hr3⟩, ⟨Hat4, #Hr4⟩, ⟨Hat5, #Hr5⟩, ⟨Hat6, #Hr6⟩⟩, #HrP,
      Ht0, Ht1, Ht2, Ht3, Ht4, Ht5, Ht6⟩, ⟨Hc0, Hc5, Hc6⟩, #Hlev, ⟨⟨%fv, Hv⟩, ⟨%fc, Hc⟩⟩, Hx, ⟨%g, Ho⟩, HO⟩, Hk⟩
  ihave Hx := (x_cut m c).1 $$ Hx
  icases Hx with ⟨Hx0, Hx1⟩
  ihave Hv := (v_cut c fv) $$ Hv
  icases Hv with ⟨Hv0, Hv1⟩
  ihave Hc := (c_cut c fc) $$ Hc
  icases Hc with ⟨⟨⟨HA0, HA1⟩, HB0⟩, HB1⟩
  iapply (sound1 m K c W)
  isplitl [HO Ht0 HB0 HB1 Hx0 Hv0 Ht1 Hx1 Hv1 Ht2 Hat1]
  · unfold pre1
    isplitr; · iexact HI
    isplitr; · iexact Hlev
    isplitl [HO]; · iexact HO
    isplitl [Ht0]
    · isplitl [Ht0]; · iexact Ht0
      iexact HrP
    isplitl [HB0 HB1]
    · isplitl [HB0]; · iexists _; iexact HB0
      isplitl [HB1]; · iexists _; iexact HB1
      isplitr; · iexact Hr5
      iexact Hr6
    isplitl [Hx0 Hv0 Ht1]
    · isplitl [Hx0]; · iexact Hx0
      isplitl [Hv0]; · iexists _; iexact Hv0
      isplitl [Ht1]; · iexact Ht1
      iexact Hr1
    isplitl [Hx1 Hv1 Ht2]
    · isplitl [Hx1]; · iexact Hx1
      isplitl [Hv1]; · iexists _; iexact Hv1
      isplitl [Ht2]; · iexact Ht2
      iexact Hr2
    iexact Hat1
  iintro %v2 %v6 Hp
  unfold post1
  icases Hp with ⟨⟨%W1, HO⟩, Hc2, Hat1, Hv0, Hx0⟩
  dsimp only
  iapply (sound2 m K c W1 v2 v6)
  isplitl [HO HA0 Ht3 Ht5 Hc0 Hat0 Hc2 Hat2 HA1]
  · unfold pre2
    isplitr; · iexact HI
    isplitr; · iexact Hlev
    isplitl [HO]; · iexact HO
    isplitl [HA0 Ht3 Ht5]
    · isplitl [HA0]; · iexists _; iexact HA0
      isplitl [Ht3]; · iexact Ht3
      isplitr; · iexact Hr3
      iexact Ht5
    isplitl [Hc0 Hat0]; · isplitl [Hc0] <;> iassumption
    isplitl [Hc2 Hat2]; · isplitl [Hc2] <;> iassumption
    iexists _; iexact HA1
  iintro Hp
  unfold post2
  icases Hp with ⟨⟨%W2, HO⟩, Hat0, Hat2, ⟨HA0, Hc3⟩, ⟨HP1, #HrP6⟩, ⟨Hv1, Hx1⟩, HA1⟩
  iapply (sound3 m K c W2 g v2 v6)
  isplitl [HO HA1 Ht4 Ht6 HP1 Hc5 Hat5 HA0 Ho]
  · unfold pre3
    isplitr; · iexact HI
    isplitl [HO]; · iexact HO
    isplitl [HA1 Ht4 Ht6 HP1]
    · isplitl [HA1]; · iexact HA1
      isplitl [Ht4]; · iexact Ht4
      isplitr; · iexact Hr4
      isplitl [Ht6]; · iexact Ht6
      isplitr; · iexact HrP6
      iexact HP1
    isplitl [Hc5 Hat5]; · isplitl [Hc5] <;> iassumption
    isplitl [HA0] <;> iassumption
  iintro Hp
  unfold post3
  icases Hp with ⟨⟨%W3, HO⟩, Hat5, ⟨HA1, Hc4⟩, HA0, HB0, Ho⟩
  iapply (sound4 m K c W3 _ v2 v6)
  isplitl [HO Ho Hc6 Hat6 Hc3 Hat3 HA1]
  · unfold pre4
    isplitr; · iexact HI
    isplitl [HO]; · iexact HO
    isplitl [Ho]; · iexists _; iexact Ho
    isplitl [Hc6 Hat6]; · isplitl [Hc6] <;> iassumption
    isplitl [Hc3 Hat3]; · isplitl [Hc3] <;> iassumption
    iexact HA1
  iintro Hp
  unfold post4
  rw [first_half]
  icases Hp with ⟨⟨%W4, HO⟩, Ho, Hat6, Hat3, HA0l, HA1, HB1⟩
  simp only [Prog.lift, Prog.bind_op, Prog.bind_ret, Prog.pure_eq_ret]
  iapply (wp_arrive m K c 4 _ rfl bS1 aS1 _ _ rfl 0 _) $$ [Hc4 HO Hat4]
  · isplitr; · iapply (inv_at m K c 4); iexact HI
    isplitl [Hc4]; · iexact Hc4
    isplitl [HO]; · iexact HO
    isplitr; · rw [MayWait_zero]; iempintro
    iexact Hat4
  iintro ⟨HO, Hat4, HA1l⟩
  unfold kpay
  rw [wp_ret]
  imod (shut m K c 0) $$ [Hat0] with Hz0
  · isplitr; · iexact HI
    iexact Hat0
  imod (shut m K c 1) $$ [Hat1] with Hz1
  · isplitr; · iexact HI
    iexact Hat1
  imod (shut m K c 2) $$ [Hat2] with Hz2
  · isplitr; · iexact HI
    iexact Hat2
  imod (shut m K c 3) $$ [Hat3] with Hz3
  · isplitr; · iexact HI
    iexact Hat3
  imod (shut m K c 4) $$ [Hat4] with Hz4
  · isplitr; · iexact HI
    iexact Hat4
  imod (shut m K c 5) $$ [Hat5] with Hz5
  · isplitr; · iexact HI
    iexact Hat5
  imod (shut m K c 6) $$ [Hat6] with Hz6
  · isplitr; · iexact HI
    iexact Hat6
  imodintro
  rw [wp_ret]
  imodintro
  iapply Hk
  unfold postAll semsZero scratch block
  isplitl [Hz0]; · iexact Hz0
  isplitl [Hz1 Hz2 Hz3 Hz4 Hz5 Hz6]
  · isplitl [Hz1]; · iexact Hz1
    isplitl [Hz2]; · iexact Hz2
    isplitl [Hz3]; · iexact Hz3
    isplitl [Hz4]; · iexact Hz4
    isplitl [Hz5] <;> iassumption
  isplitl [Hv0 Hv1 HA0 HA0l HA1 HA1l HB0 HB1]
  · isplitl [Hv0 Hv1]
    · iapply (v_join c (landed m c rX0) (landed m c rX1))
      isplitl [Hv0] <;> iassumption
    · iapply (c_join c (slotAt m c rA0 (part0 m c)) (slotAt m c rA1 (part1 m c)) (slotAt m c rB0 (part0 m (peer c))) (slotAt m c rB1 (part1 m (peer c))))
      isplitr [HB1]
      · isplitr [HB0]
        · isplitl [HA0 HA0l]
          · iapply (c_halves c rA0 (slotAt m c rA0 (part0 m c))).2
            isplitl [HA0l] <;> iassumption
          · iapply (c_halves c rA1 (slotAt m c rA1 (part1 m c))).2
            isplitl [HA1l] <;> iassumption
        · iexact HB0
      · iexact HB1
  isplitl [Hx0 Hx1]
  · iapply (x_cut m c).2
    isplitl [Hx0] <;> iassumption
  isplitl [Ho]
  · unfold outAt; iexact Ho
  iexact HO

end Run

end Cert.RowMax
-- ==== Proof.Region.lean ====
/-
  The kernel as one region of the program: what it is entered with and what it leaves, over the run of `Body`.
-/
module

public import proofs.«01_k».proof.Proof.Body
public import Idealize.ShloMosaic.Lib.Pipeline.RegionTalk

@[expose] public section

noncomputable section

namespace Cert.RowMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The buffers the program holds -/

/-- The memory at launch, and after the kernel. -/
abbrev V₀ (c : Dev nD) : Valuation τ sig (Elt F) := fun b => m (c, b)
abbrev V₁ (c : Dev nD) : Valuation τ sig (Elt F) := Function.update (V₀ m c) (Proc.devRef .tc main_v1) (outAt m c)

/-- The argument and the result, which the kernel's output array is not among. -/
abbrev others : Finset (DevRef τ sig) := {Proc.devRef .tc main_arg0, Proc.devRef .tc main_v2}
/-- The one of them that the kernel addresses. -/
abbrev reads : Finset (DevRef τ sig) := {Proc.devRef .tc main_arg0}

/-- After the region the call's result holds `outAt`. -/
theorem V₁_out (c : Dev nD) : V₁ m c (Proc.devRef .tc main_v1) = outAt m c := Function.update_self ..
/-- The region changes no other buffer. -/
theorem V₁_ne (c : Dev nD) {b : DevRef τ sig} (h : b ≠ Proc.devRef .tc main_v1) : V₁ m c b = V₀ m c b := Function.update_of_ne h ..

/-- The buffer that the kernel reads is the device's block. -/
theorem reads_held (c : Dev nD) (W : Valuation τ sig (Elt F)) (h : W (Proc.devRef .tc main_arg0) = m ((c : Thread nD τ).loc main_arg0)) :
    (StableHlo.held (c : Thread nD τ) reads W : sProp 𝕄) = block m c := by
  unfold StableHlo.held block
  rw [bigSep_singleton, h]

/-! ## The region's own counters -/

abbrev osem : Fin 6 → SemLoc sig := fun k => ksem k.succ

/-- The kernel's own counters, one by one. -/
theorem ownSems_eq (c : Dev nD) : (Pipeline.ownSems0 osem c : sProp 𝕄) = semsZero c := by
  unfold Pipeline.ownSems0
  rw [bigSep_univ_eq_bigSepL [0, 1, 2, 3, 4, 5] (by decide) (by decide)]
  rfl

/-! ## What enters the region, what the body's invariant holds, what is left -/

/-- The cells' rights to open. -/
def openToks (c : Dev nD) : sProp 𝕄 :=
  iprop(openTok ER (cell c 1) ∗ openTok ER (cell c 2) ∗ openTok ER (cell c 3) ∗ openTok ER (cell c 4) ∗ openTok ER (cell c 5) ∗ openTok ER (cell c 6))

/-- What the launch deals to device `c`: the invariants, its barrier position, its rights to open, the neighbour's barrier round, and its tokens. -/
def dealt (K : GSem nD τ sig → ℕ) (c : Dev nD) : sProp 𝕄 :=
  iprop(invs m K ∗ atPos ER (cell c 0) 0 ∅ 0 ∗ openToks c ∗ reached ER (cell (peer c) 0) 0 ∗ payToks c)
/-- The same once the region has opened its cells. -/
def opened (K : GSem nD τ sig → ℕ) (c : Dev nD) : sProp 𝕄 :=
  iprop(invs m K ∗ posns c ∗ reached ER (cell (peer c) 0) 0 ∗ payToks c)

/-- What a device brings to the region: its part of the talk, sealed. -/
def Tk (c : Dev nD) : sProp 𝕄 := iprop((∃ K, dealt m K c) ∗ creds c)
/-- The same once its cells are open. -/
def Xk (c : Dev nD) : sProp 𝕄 := iprop((∃ K, opened m K c) ∗ creds c ∗ levAts L lv)
/-- What it takes out: the barrier's counter at zero. -/
def Yk (c : Dev nD) : sProp 𝕄 := semVal (cell c 0) 0

/-- The body's invariant before its one point, and after it. -/
def Φ₀ (c : Dev nD) : sProp 𝕄 := iprop(Xk m c ∗ block m c ∗ scratch c ∗ ∃ r, prngReg c r)
/-- After the point, every counter is at zero. -/
def Φ₁ (c : Dev nD) : sProp 𝕄 := iprop(Yk c ∗ semsZero c ∗ block m c ∗ scratch c ∗ ∃ r, prngReg c r)

/-- The call as a pipeline of one point: what its output's staging holds after the body, and what is owed before and after. -/
def dat0 (c : Dev nD) : Dat τ (Elt F) Unit ℕ UU ℕ cfg0 c where
  A w := match w with
    | ⟨0, _⟩ => m ((c : Thread nD τ).loc main_v1)
    | ⟨_ + 1, h⟩ => absurd h (Nat.not_lt.2 (Nat.le_add_left _ _))
  after w _ := match w with
    | ⟨0, _⟩ => outAt m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat0 m

/-- What a thread owes, as the pipeline states it. -/
theorem owesAt_intro {c : Dev nD} (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound
  rw [h]
  iintro HO
  iexists W
  isplitr; · ipureintro; exact fun _ _ => Or.inl trivial
  iexact HO
/-- And back. -/
theorem owesAt_elim {c : Dev nD} (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W
  iexact HO

/-- Owning the whole of a buffer at `X`. -/
theorem owns_whole (c : Dev nD) (b : Ref sig .tc) (X : b.ty.Contents (Elt F)) :
    (owns (c : Thread nD τ) (Memref.whole b) fullShare X : sProp 𝕄) = iprop(∃ f, ⌜f = X⌝ ∗ ((c : Thread nD τ).loc b) ↦{fullShare} f) := by
  unfold owns
  simp only [Memref.view_whole, View.read_whole, View.set_whole]

/-! ## The body obligation -/

/-- What the body's obligation starts from. -/
def bodyPre (c : Dev nD) : sProp 𝕄 :=
  iprop(Φ₀ m c ∗ (dat0 m c).owesAt () t0_0.castSucc
    ∗ ∃ d, ∃ f, ⌜f = (dat0 m c).before (0 : Fin 1) t0_0 d⌝ ∗ ((c : Thread nD τ).loc cc0_stg0_0) ↦{fullShare} f)
/-- What the body's obligation ends with. -/
def bodyPost (c : Dev nD) : sProp 𝕄 :=
  iprop(Φ₁ m c ∗ (dat0 m c).owesAt () t0_0.succ
    ∗ ∃ f, ⌜f = outAt m c⌝ ∗ ((c : Thread nD τ).loc cc0_stg0_0) ↦{fullShare} f)

/-- The body's run, from the one to the other. -/
theorem run_body (c : Dev nD) :
    bodyPre m c ⊢ wp frame (wpE (defs₀ (F := F)) 𝒱₀ c none) Set.univ runAll (fun _ => bodyPost m c) := by
  unfold bodyPre Φ₀ Xk opened
  iintro ⟨⟨⟨⟨%K, Hg⟩, Hcr, Hlev⟩, Hb, Hs, Hp⟩, HO, ⟨%d, %f, -, Ho⟩⟩
  ihave HO' := (owesAt_elim m t0_0.castSucc (O₀ c) rfl) $$ HO
  icases HO' with ⟨%W, HO⟩
  iapply (sound m K c W)
  isplitl [Hg Hcr Hlev Hb Hs Ho HO]
  · unfold preAll
    isplitl [Hg]; · iexact Hg
    isplitl [Hcr]; · iexact Hcr
    isplitl [Hlev]; · iexact Hlev
    isplitl [Hs]; · iexact Hs
    isplitl [Hb]; · iexact Hb
    isplitl [Ho]; · iexists f; unfold oPts; iexact Ho
    iexact HO
  unfold postAll bodyPost Φ₁ Yk oPts
  iintro ⟨Hz0, Hz, Hs, Hb, Ho, ⟨%W', HO⟩⟩
  isplitl [Hz0 Hz Hs Hb Hp]
  · isplitl [Hz0]; · iexact Hz0
    isplitl [Hz]; · iexact Hz
    isplitl [Hb]; · iexact Hb
    isplitl [Hs]; · iexact Hs
    iexact Hp
  isplitl [HO]; · iapply (owesAt_intro m t0_0.succ 0 rfl W'); iexact HO
  iexists outAt m c
  isplitr; · ipureintro; rfl
  iexact Ho

/-- So the pipeline's obligation holds at its one point. -/
theorem body_obligation (c : Dev nD) : BodyObligation (dat0 m c) (defs₀ (F := F)) 𝒱₀ () Set.univ := fun t => by
  rw [fin_N0 t]
  rw [bigSep_W0, bigSep_W0]
  dsimp only
  rw [show stage0_0 0 = Memref.whole cc0_stg0_0 from rfl]
  simp only [owns_whole]
  exact run_body m c

/-! ## Entering and leaving -/

/-- A device opens its cells with the counters that the region deals it. -/
theorem hopen (c : Dev nD) : iprop(Tk m c ∗ Pipeline.ownSems0 osem c ∗ levAts L lv) ⊢ (|={Set.univ}=> Xk m c : sProp 𝕄) := by
  have hop (K : GSem nD τ sig → ℕ) (k : Fin 7) : iprop(invs m K ∗ openTok ER (cell c k) ∗ semVal (cell c k) 0)
      ⊢ (|={Set.univ}=> iprop(atPos ER (cell c k) 0 ∅ 0 ∗ reached ER (cell c k) 0) : sProp 𝕄) := by
    iintro ⟨#HI, Ho, Hz⟩
    iapply (Rounds.cell_open ER (talk m) (g := cell c k) (Set.mem_univ (K (cell c k))))
    isplitr; · iapply (inv_at m K c k); iexact HI
    isplitl [Ho] <;> iassumption
  rw [ownSems_eq]
  unfold Tk Xk dealt openToks semsZero
  iintro ⟨⟨⟨%K, #HI, Hat0, ⟨Ho1, Ho2, Ho3, Ho4, Ho5, Ho6⟩, #HrP, Ht⟩, Hcr⟩, ⟨Hz1, Hz2, Hz3, Hz4, Hz5, Hz6⟩, #Hlev⟩
  imod (hop K 1) $$ [Ho1 Hz1] with H1
  · isplitr; · iexact HI
    isplitl [Ho1] <;> iassumption
  imod (hop K 2) $$ [Ho2 Hz2] with H2
  · isplitr; · iexact HI
    isplitl [Ho2] <;> iassumption
  imod (hop K 3) $$ [Ho3 Hz3] with H3
  · isplitr; · iexact HI
    isplitl [Ho3] <;> iassumption
  imod (hop K 4) $$ [Ho4 Hz4] with H4
  · isplitr; · iexact HI
    isplitl [Ho4] <;> iassumption
  imod (hop K 5) $$ [Ho5 Hz5] with H5
  · isplitr; · iexact HI
    isplitl [Ho5] <;> iassumption
  imod (hop K 6) $$ [Ho6 Hz6] with H6
  · isplitr; · iexact HI
    isplitl [Ho6] <;> iassumption
  imodintro
  isplitl [Hat0 H1 H2 H3 H4 H5 H6 Ht]
  · iexists K
    unfold opened posns
    isplitr; · iexact HI
    isplitl [Hat0 H1 H2 H3 H4 H5 H6]
    · isplitl [Hat0]; · iexact Hat0
      isplitl [H1]; · iexact H1
      isplitl [H2]; · iexact H2
      isplitl [H3]; · iexact H3
      isplitl [H4]; · iexact H4
      isplitl [H5] <;> iassumption
    isplitr; · iexact HrP
    iexact Ht
  isplitl [Hcr]; · iexact Hcr
  iexact Hlev

/-- What the region deals is the body's invariant before its point. -/
theorem hin (c : Dev nD) : iprop(Pipeline.scopedRest (Pipeline.pin (pcfgs (F := F)) adm 0).spec c ∗ (∃ r, prngReg c r)
      ∗ StableHlo.held (c.tc : Thread nD τ) reads (V₀ m c) ∗ Xk m c) ⊢ (pdats m 0 c).Φ 0 := by
  rw [show (pdats m 0 c).Φ 0 = Φ₀ m c from rfl, scopedRest0_eq, reads_held m c (V₀ m c) rfl]
  unfold Φ₀ scratch
  iintro ⟨Hs, Hp, Hb, HX⟩
  isplitl [HX]; · iexact HX
  isplitl [Hb]; · iexact Hb
  isplitl [Hs]; · iexact Hs
  iexact Hp

/-- The invariant after the point gives back what the region takes. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) reads (V₁ m c) ∗ Pipeline.ownSems0 osem c ∗ Yk c) := by
  rw [show (pdats m 0 c).Φ (Fin.last _) = Φ₁ m c from rfl, scopedRest0_eq,
    reads_held m c (V₁ m c) (V₁_ne m c (by decide)), ownSems_eq]
  unfold Φ₁ scratch
  iintro ⟨HY, Hz, Hb, Hs, Hp⟩
  isplitl [Hs]; · iexact Hs
  isplitl [Hp]; · iexact Hp
  isplitl [Hb]; · iexact Hb
  isplitl [Hz] <;> iassumption

/-! ## The output array -/

/-- Before the region each window's array is as at launch. -/
theorem arr_entry (c : Dev nD) (w : Fin cfg0.W) : (dat0 m c).arrAt w 0 = V₀ m c (Proc.devRef .tc (Pipeline.arrRef spec0 w)) := by
  fin_cases w
  rfl

/-- The output's one block is the whole array. -/
theorem blk_emb (i : S512.Idx) : ((cfg0.win 0).blk t0_0).view.emb i = i := by
  funext a
  match a with
  | 0 => exact Fin.ext (show 0 * 512 + 1 * (i 0).val = (i 0).val by omega)

/-- After the kernel the output array holds what the body left. -/
theorem arr_exit (c : Dev nD) (w : Fin cfg0.W) : (dat0 m c).arrAt w cfg0.N = V₁ m c (Proc.devRef .tc (Pipeline.arrRef spec0 w)) := by
  fin_cases w
  refine Eq.trans ?_ (V₁_out m c).symm
  refine (dat0 m c).arrAt_eq_of_cover (0 : Fin 1) (outAt m c) (fun t _ => ?_) (fun i => ⟨t0_0, flush0_0 t0_0, ?_⟩)
  · rw [fin_N0 t]
    funext i
    exact (congrArg (outAt m c) (blk_emb i)).symm
  · exact Finset.mem_map.mpr ⟨i, Finset.mem_univ _, blk_emb i⟩

/-! ## The region -/

/-- What a device owes at launch, it owes at cells of level at least 1. -/
theorem owed_cut (c : Dev nD) (g : GSem nD τ sig) (i : Unit) (h : 0 < O₀ c g i) : i ∈ L g ∧ 0 < lv g i := by
  have hs : g = cell (peer c) 6 ∨ g = cell (peer c) 5 ∨ g = cell (peer c) 0 := by
    rcases Nat.add_pos_iff_pos_or_pos.mp (show 0 < O1 c g i + tallyAt (cell (peer c) 0) () 1 g i from h) with h | h
    · rcases Nat.add_pos_iff_pos_or_pos.mp (show 0 < O2 c g i + tallyAt (cell (peer c) 5) () Nc0 g i from h) with h | h
      · exact .inl (tallyAt_supp h)
      · exact .inr (.inl (tallyAt_supp h))
    · exact .inr (.inr (tallyAt_supp h))
  rcases hs with rfl | rfl | rfl <;> refine ⟨by rw [L_tc]; exact Finset.mem_singleton_self _, ?_⟩
  · rw [lv_recv1]; exact Nat.two_pos
  · rw [lv_recv0]; exact Nat.two_pos
  · unfold lv
    split
    · exact Nat.two_pos
    · exact (if_pos rfl : (if (cell (peer c) 0).2 = ksem 0 then 1 else 0) = 1) ▸ Nat.one_pos

/-- Whatever is owed is owed above the level of the staging. -/
theorem cut (c : Dev nD) (t : Fin ((Pipeline.pin (pcfgs (F := F)) adm 0).N + 1)) (g : GSem nD τ sig) (i : Unit)
    (h : 0 < (pdats m 0 c).owed t g i) : i ∈ L g ∧ 0 < lv g i := by
  obtain ⟨t, ht⟩ := t
  cases t with
  | zero => exact owed_cut c g i h
  | succ n => exact absurd (show 0 < (0 : CellTallies nD τ sig Unit) g i from h) (Nat.lt_irrefl 0)

/-- The output is held whole. -/
theorem share_eq (c : Dev nD) (w : Fin cfg0.W) : (dat0 m c).share w = fullShare := by
  unfold Dat.share
  split <;> rfl

/-- The staging of the output is at the lowest level. -/
theorem lv_stage (c : Dev nD) : lv ((c : Thread nD τ), .dma 0) () = 0 := by
  unfold lv
  rw [if_neg (fun h => h.elim (fun h => ksem_ne_stage 5 h.symm) fun h => ksem_ne_stage 6 h.symm), if_neg (fun h => ksem_ne_stage 0 h.symm)]

set_option backward.isDefEq.respectTransparency.types false in
/-- The call as a region of the program. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    reads others (by decide) Gen.launch0.toP rfl (fun c => (body_obligation m c).loose)
    (fun _ => 0) O₀ (fun c => (zero_add (O₀ c)).symm) (fun _ => rfl) (fun _ => rfl) (share_eq m)
    (V₀ m) (V₁ m) (fun c b hb => V₁_ne m c (by
      rintro rfl
      exact absurd hb (by decide)))
    (Tk m) Yk (Xk m) Yk (hopen m) (hin m) (hout m)
    (fun c => by iintro H; imodintro; iexact H)
    (fun _ => 0)
    ⟨fun c w s => by rw [L_tc]; exact Finset.mem_singleton_self _,
     fun c w s => by fin_cases w; fin_cases s; exact Nat.le_of_eq (lv_stage c),
     fun c t g i h => cut m c t g i h⟩
    (fun _ => iprop(emp))
    (arr_entry m) (arr_exit m)

end Cert.RowMax
-- ==== Proof.Run.lean ====
/-
  The whole program on the four devices: the launch that deals each device its part of the talk, the region, and the host's
  reshape after it.
-/
module

public import proofs.«01_k».proof.Proof.Region
public import Idealize.ShloMosaic.Lib.Pipeline.Regions

@[expose] public section

noncomputable section

namespace Cert.RowMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The unscoped buffers -/

/-- The buffers that outlive the call. -/
def bufs : Finset (DevRef τ sig) := (StableHlo.tcRefs τ sig).filter fun b => ¬ b.isScoped

/-- Those buffers, held at a valuation. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- A buffer whole, at what a valuation gives it. -/
def at_ (c : Dev nD) (W : Valuation τ sig (Elt F)) (b : Ref sig .tc) : sProp 𝕄 := ((c : Thread nD τ).loc b) ↦{fullShare} (W (Proc.devRef .tc b))

/-- They are three: the argument, the call's result and the program's result. -/
theorem bufs_eq (c : Dev nD) (W : Valuation τ sig (Elt F)) :
    (StableHlo.held (c : Thread nD τ) bufs W : sProp 𝕄) = iprop(at_ c W main_arg0 ∗ at_ c W main_v1 ∗ at_ c W main_v2) := by
  unfold StableHlo.held
  rw [bigSep_eq_bigSepL_of_eq [Proc.devRef .tc main_arg0, Proc.devRef .tc main_v1, Proc.devRef .tc main_v2] (by decide) (by decide)]
  rfl
/-- Without the call's result they are two. -/
theorem others_eq (c : Dev nD) (W : Valuation τ sig (Elt F)) :
    (StableHlo.held (c : Thread nD τ) others W : sProp 𝕄) = iprop(at_ c W main_arg0 ∗ at_ c W main_v2) := by
  unfold StableHlo.held
  rw [bigSep_eq_bigSepL_of_eq [Proc.devRef .tc main_arg0, Proc.devRef .tc main_v2] (by decide) (by decide)]
  rfl
/-- The call's arrays are its result. -/
theorem arr_eq (c : Dev nD) (W : Valuation τ sig (Elt F)) :
    (StableHlo.held (c : Thread nD τ) (Pipeline.arrRefs (τ := τ) spec0) W : sProp 𝕄) = at_ c W main_v1 := by
  unfold StableHlo.held
  rw [bigSep_eq_bigSepL_of_eq [Proc.devRef .tc main_v1] (by decide) (by decide)]
  rfl

/-- One counter outlives the call, the barrier's. -/
theorem unscopedSems_eq (c : Dev nD) : (unscopedSems0 c : sProp 𝕄) = semVal (cell c 0) 0 := by
  unfold unscopedSems0
  rw [show (Finset.univ.filter fun sm : SemLoc sig => ¬ sm.isScoped .tc) = {ksem 0} from by decide, bigSep_singleton]

/-- No other semaphore does. -/
theorem unscoped_sem : ∀ sm : SemLoc sig, sm.isScoped .tc = false → sm = ksem 0 := by decide

/-! ## The two segments -/

/-- The memory at the end. -/
abbrev V₂ (c : Dev nD) : Valuation τ sig (Elt F) := StableHlo.after hostOps1 (V₁ m c)

/-- The program leaves its argument as at launch. -/
theorem V₂_arg (c : Dev nD) : V₂ m c (Proc.devRef .tc main_arg0) = m ((c : Thread nD τ).loc main_arg0) := by
  show StableHlo.after hostOps1 (V₁ m c) (Proc.devRef .tc main_arg0) = _
  rw [StableHlo.after_cons, StableHlo.after_nil, StableHlo.reshape_result_ne _ _ _ _ _ _ _ (by decide)]
  exact V₁_ne m c (by decide)
/-- The result is the kernel's output as a column. -/
theorem V₂_out (c : Dev nD) : V₂ m c (Proc.devRef .tc main_v2) = shapeCast S512x1 (outAt m c) shapeCasts_S512_S512x1 := by
  show StableHlo.after hostOps1 (V₁ m c) (Proc.devRef .tc main_v2) = _
  rw [StableHlo.after_cons, StableHlo.after_nil, StableHlo.reshape_result, V₁_out]
  rfl

/-- What rides beside the buffers in the host's segment. -/
def rest (c : Dev nD) : sProp 𝕄 := iprop(semVal (cell c 0) 0 ∗ ∃ W, owes (c : Thread nD τ) (0 : CellTallies nD τ sig Unit) W)

/-- The host's operation is on those buffers. -/
theorem host_sub : ∀ op ∈ (hostOps1 : List (HloOp τ sig (Elt F))), op.bufs ⊆ bufs := fun op h => by
  simp only [List.mem_singleton] at h
  subst h
  show ({Proc.devRef .tc main_v1, Proc.devRef .tc main_v2} : Finset (DevRef τ sig)) ⊆ bufs
  decide
/-- It determines its result. -/
theorem host_fresh : ∀ op ∈ (hostOps1 : List (HloOp τ sig (Elt F))), op.fresh = ∅ := fun op h => by
  simp only [List.mem_singleton] at h
  subst h
  rfl

/-- The host's reshape as a segment of the program. -/
def host : Pipeline.HostSeg (Name := ℕ) (U := UU) (pcfgs (F := F)) defs₀ 𝒱₀ L lv :=
  Pipeline.HostSeg.ofOps _ _ _ _ _ bufs hostOps1 host_sub host_fresh (V₁ m) rest

/-- The program: the region, then the reshape. -/
abbrev segs : List (Pipeline.Seg (pcfgs (F := F)) adm (pdats m) () defs₀ 𝒱₀ L lv) := [.region (reg m), .host (host m)]

/-- What a device starts with: its buffers, what was dealt to it, and what it owes. -/
abbrev T₀ (c : Dev nD) : sProp 𝕄 :=
  iprop(StableHlo.held (c : Thread nD τ) bufs (V₀ m c) ∗ Tk m c ∗ (∃ r, prngReg c r) ∗ ∃ W, owes (c : Thread nD τ) (O₀ c) W)
abbrev Tₙ (c : Dev nD) : sProp 𝕄 := iprop(StableHlo.held (c : Thread nD τ) bufs (V₂ m c) ∗ semVal (cell c 0) 0)

/-- What a device is dealt is what the region starts from. -/
theorem reg_pre (c : Dev nD) : T₀ m c ⊢ (reg m).pre c := by
  show _ ⊢ iprop(StableHlo.held (c.tc : Thread nD τ) (Pipeline.arrRefs (τ := τ) spec0) (V₀ m c) ∗ (∃ r, prngReg c r)
    ∗ (StableHlo.held (c.tc : Thread nD τ) others (V₀ m c) ∗ emp) ∗ Tk m c ∗ ∃ Wd, owes (c : Thread nD τ) (0 + O₀ c) Wd)
  unfold T₀
  rw [bufs_eq, arr_eq, others_eq, zero_add]
  iintro ⟨⟨Ha, H1, H2⟩, HT, Hp, HO⟩
  isplitl [H1]; · iexact H1
  isplitl [Hp]; · iexact Hp
  isplitl [Ha H2]
  · isplitl [Ha H2]; · isplitl [Ha] <;> iassumption
    iempintro
  isplitl [HT]; · iexact HT
  iexact HO

/-- What the region ends with is what the reshape starts from. -/
theorem reg_post (c : Dev nD) : (reg m).post c ⊢ iprop(StableHlo.held (c : Thread nD τ) bufs (V₁ m c) ∗ rest c) := by
  show iprop(StableHlo.held (c.tc : Thread nD τ) (Pipeline.arrRefs (τ := τ) spec0) (V₁ m c) ∗ (∃ r, prngReg c r)
    ∗ (StableHlo.held (c.tc : Thread nD τ) others (V₁ m c) ∗ emp) ∗ Yk c ∗ ∃ Wd, owes (c : Thread nD τ) (0 : CellTallies nD τ sig Unit) Wd) ⊢ _
  rw [bufs_eq, arr_eq, others_eq]
  unfold rest Yk
  iintro ⟨H1, -, ⟨⟨Ha, H2⟩, -⟩, Hz, HO⟩
  isplitl [H1 Ha H2]
  · isplitl [Ha]; · iexact Ha
    isplitl [H1] <;> iassumption
  isplitl [Hz] <;> iassumption

/-! ## The launch -/

/-- A token for the one round of every cell. -/
def tokEmb : Dev nD × Fin 7 ↪ GSem nD τ sig × ℕ × Unit :=
  ⟨fun ck => (cell ck.1 ck.2, 0, ()), fun _ _ h =>
    Prod.ext (congrArg (fun t : GSem nD τ sig × ℕ × Unit => t.1.1.1) h)
      (ksem_injective (congrArg (fun t : GSem nD τ sig × ℕ × Unit => t.1.2) h))⟩
/-- The tokens of all duties. -/
def talkToks : Finset (GSem nD τ sig × ℕ × Unit) := Finset.univ.map tokEmb

/-- The barrier cells are none of the others. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact Fin.succ_ne_zero ck.2 (ksem_injective (congrArg Prod.snd h))

def u₀ : UU :=
  (initOf (Pipeline.cells (Pipeline.pin (pcfgs (F := F)) adm) Gen.cellOf_inj) (Pipeline.launchToks (Pipeline.pin (pcfgs (F := F)) adm) Gen.cellOf_inj),
    launchOf barCells scCells talkToks)

/-- The whole of the talk's ghost state, kept by device 0 until it is dealt. -/
def G (c : Dev nD) : sProp 𝕄 := if c = 0 then BI.own (ER (launchOf barCells scCells talkToks)) else iprop(emp)

/-- Dealt to the devices in turn, the whole of the talk's ghost state is all at the first. -/
theorem G_all : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-- What every device may consult: the invariants, and that every barrier is at its round. -/
def records (K : GSem nD τ sig → ℕ) : sProp 𝕄 := iprop(invs m K ∗ bigSep barCells fun g => reached ER g 0)

instance records_persistent (K : GSem nD τ sig → ℕ) : BI.Persistent (records m K) := by unfold records; infer_instance

/-- One barrier at its round, out of all of them. -/
theorem reached_at (c : Dev nD) : (bigSep barCells fun g => (reached ER g 0 : sProp 𝕄)) ⊢ reached ER (cell c 0) 0 :=
  bigSep_elim (Finset.mem_map_of_mem barEmb (Finset.mem_univ c))

/-- The tokens of device `c`'s own cells. -/
def ownToks (c : Dev nD) : sProp 𝕄 :=
  iprop(dutyTok ER (cell c 0) 0 () ∗ dutyTok ER (cell c 1) 0 () ∗ dutyTok ER (cell c 2) 0 () ∗ dutyTok ER (cell c 3) 0 ()
    ∗ dutyTok ER (cell c 4) 0 () ∗ dutyTok ER (cell c 5) 0 () ∗ dutyTok ER (cell c 6) 0 ())

/-- The tokens, device by device. -/
theorem toks_eq : bigSep talkToks (fun x => (dutyTok ER x.1 x.2.1 x.2.2 : sProp 𝕄)) = bigSep Finset.univ fun c : Dev nD => ownToks c := by
  unfold talkToks
  rw [bigSep_map, bigSep_univ_prod]
  refine bigSep_congr fun c _ => ?_
  rw [bigSep_univ_eq_bigSepL [0, 1, 2, 3, 4, 5, 6] (by decide) (by decide)]
  rfl

/-- The tokens of the cells that neighbours pay change hands. -/
theorem toks_swap : (bigSep Finset.univ fun c : Dev nD => (ownToks c : sProp 𝕄)) ⊢ bigSep Finset.univ fun c : Dev nD => payToks c := by
  unfold ownToks payToks
  simp only [bigSep_sep']
  rw [bigSep_univ_equiv swap (fun c : Dev nD => (dutyTok ER (cell c 0) 0 () : sProp 𝕄)),
    bigSep_univ_equiv swap (fun c : Dev nD => (dutyTok ER (cell c 5) 0 () : sProp 𝕄)),
    bigSep_univ_equiv swap (fun c : Dev nD => (dutyTok ER (cell c 6) 0 () : sProp 𝕄))]
  exact BI.Entails.refl _

/-! ### The credit for what is owed -/

/-- A cell's share of one entry of what a device owes. -/
theorem tally_at (d c : Dev nD) (k j : Fin 7) (n : ℕ) :
    (tallyAt (cell (peer d) k) () n : CellTallies nD τ sig Unit) (cell c j) () = if d = peer c then (if k = j then n else 0) else 0 := by
  rw [tallyAt_apply]
  by_cases hd : d = peer c
  · subst hd
    rw [if_pos rfl, peer_peer]
    by_cases hk : k = j
    · subst hk
      rw [if_pos rfl, if_pos ⟨rfl, rfl⟩]
    · rw [if_neg hk, if_neg fun h => hk (ksem_injective (congrArg Prod.snd h.1).symm)]
  · rw [if_neg hd, if_neg fun h => hd ?_]
    have e : c = peer d := congrArg (fun g : GSem nD τ sig => g.1.1) h.1
    rw [e, peer_peer]

/-- What device `d` owes cell `j` of device `c`. -/
theorem owed_at (d c : Dev nD) (j : Fin 7) :
    O₀ d (cell c j) () = if d = peer c then ((if 6 = j then Nc1 else 0) + (if 5 = j then Nc0 else 0) + (if 0 = j then 1 else 0)) else 0 := by
  show tallyAt (cell (peer d) 6) () Nc1 (cell c j) () + tallyAt (cell (peer d) 5) () Nc0 (cell c j) ()
    + tallyAt (cell (peer d) 0) () 1 (cell c j) () = _
  rw [tally_at, tally_at, tally_at]
  split <;> simp only [Nat.add_zero]

/-- What the launch credits to a cell is what its neighbour owes it. -/
theorem launch_cell (c : Dev nD) (j : Fin 7) (n : ℕ)
    (hn : (if 6 = j then Nc1 else 0) + (if 5 = j then Nc0 else 0) + (if 0 = j then 1 else 0) = n) :
    tallyOn (cell c j) (launchCredit (Pipeline.owing O₀) 0 (cell c j)) = (tallyAt (cell c j) () n : CellTallies nD τ sig Unit) := by
  unfold tallyAt
  refine congrArg _ (Finsupp.ext fun u => ?_)
  cases u
  rw [Pipeline.launchCredit_owing, Finsupp.single_eq_same, Finset.sum_congr rfl fun d _ => owed_at d c j,
    Finset.sum_ite_eq' Finset.univ (peer c), if_pos (Finset.mem_univ _), hn]

/-- A device's launch credit, cell by cell. -/
theorem creds_intro (c : Dev nD) : (Pipeline.launchCred O₀ c : sProp 𝕄) ⊢ creds c := by
  unfold Pipeline.launchCred creds
  rw [bigSep_univ_at _ (ksem 0), launch_cell c 0 1 rfl]
  refine sep_mono_right ?_
  rw [bigSep_erase (i := ksem 5) (Finset.mem_erase.mpr ⟨fun h => absurd (ksem_injective h) (by decide), Finset.mem_univ _⟩), launch_cell c 5 Nc0 (by simp)]
  refine sep_mono_right ?_
  rw [← launch_cell c 6 Nc1 (by simp)]
  exact bigSep_elim (Finset.mem_erase.mpr ⟨fun h => absurd (ksem_injective h) (by decide),
    Finset.mem_erase.mpr ⟨fun h => absurd (ksem_injective h) (by decide), Finset.mem_univ _⟩⟩)

/-! ### Dealing -/

/-- What of the dealt state is device `c`'s alone. -/
def linear (c : Dev nD) : sProp 𝕄 := iprop(atPos ER (cell c 0) 0 ∅ 0 ∗ openToks c ∗ payToks c)
/-- What a device has at launch beside it. -/
def bundle (c : Dev nD) : sProp 𝕄 :=
  iprop(StableHlo.held (c : Thread nD τ) bufs (V₀ m c) ∗ creds c ∗ (∃ r, prngReg c r) ∗ owes (c : Thread nD τ) (O₀ c) ∅)

/-- The pieces of one device's deal, put together. -/
theorem T₀_intro (K : GSem nD τ sig → ℕ) (c : Dev nD) : iprop(records m K ∗ (linear c ∗ bundle m c)) ⊢ T₀ m c := by
  unfold records linear bundle T₀ Tk dealt
  iintro ⟨⟨#HI, #HR⟩, ⟨Hat, Hop, Ht⟩, Hh, Hcr, Hp, HO⟩
  isplitl [Hh]; · iexact Hh
  isplitl [Hat Hop Ht Hcr]
  · isplitl [Hat Hop Ht]
    · iexists K
      isplitr; · iexact HI
      isplitl [Hat]; · iexact Hat
      isplitl [Hop]; · iexact Hop
      isplitr; · iapply (reached_at (F := F) (peer c)); iexact HR
      iexact Ht
    iexact Hcr
  isplitl [Hp]; · iexact Hp
  iexists ∅
  iexact HO

/-- The launch deals every device its part of the talk. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c 0) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold bundle
    iintro ⟨Hh, Hz, HO, Hcr, Hp, HG⟩
    isplitl [Hh HO Hcr Hp]
    · isplitl [Hh]; · iexact Hh
      isplitl [Hcr]; · iapply (creds_intro (F := F) c); iexact Hcr
      isplitl [Hp]; · iexists (ρ c); iexact Hp
      iexact HO
    isplitl [Hz] <;> iassumption
  have hz : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c 0) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => (openToks c : sProp 𝕄)) :=
    Entails.of_eq (by
      rw [bigSep_map, bigSep_univ_prod]
      refine bigSep_congr fun c _ => ?_
      rw [bigSep_univ_eq_bigSepL [0, 1, 2, 3, 4, 5] (by decide) (by decide)]
      rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c 0) 0 ∗ G c)) : sProp 𝕄) from bigSep_mono fun c _ => hcore c) $$ H
  ihave H := (Entails.of_eq (bigSep_sep' _ _ _)) $$ H
  icases H with ⟨HB, H⟩
  ihave H := (Entails.of_eq (bigSep_sep' _ _ _)) $$ H
  icases H with ⟨Hz, HG⟩
  ihave HG := (Entails.of_eq (G_all (F := F))) $$ HG
  imod (Rounds.fund_launch ER (talk m) disjoint_cells (fun g _ h => h) talkToks) $$ [Hz HG] with ⟨%K, -, #HI, #HR, Hat, Hop, Ht⟩
  · isplitl [Hz]; · iapply hz $$ Hz
    iexact HG
  imodintro
  iapply (bigSep_with_persistent (R := records m K) (Φ := fun c => iprop(linear c ∗ bundle m c)) fun c _ => T₀_intro m K c)
  isplitr
  · unfold records invs
    isplitr; · iexact HI
    iexact HR
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hop]; · iapply hop $$ Hop
    iapply (toks_swap (F := F))
    iapply (Entails.of_eq (toks_eq (F := F))) $$ Ht
  · iexact HB

/-! ## The run -/

set_option backward.isDefEq.respectTransparency.types false in
/-- From any memory with counters at zero, every weakly fair execution of the program on the four devices ends, with every
    device's argument unchanged, its result the column of `outAt`, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = shapeCast S512x1 (outAt m c) shapeCasts_S512_S512x1) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (host m) (reg m) rfl c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => reg_pre m c, fun c => reg_post m c, fun c => ?_⟩
      show iprop(StableHlo.held (c : Thread nD τ) bufs (V₂ m c)
          ∗ (semVal (cell c 0) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hz, HO⟩
      isplitr [HO]
      · isplitl [Hh] <;> iassumption
      · iexact HO)
    (hinit := init m ρ)
    (QY := fun c s => (s.mem ((c : Thread nD τ).loc main_arg0) = V₂ m c (Proc.devRef .tc main_arg0)
        ∧ s.mem ((c : Thread nD τ).loc main_v2) = V₂ m c (Proc.devRef .tc main_v2)) ∧ s.sem (cell c 0) = 0)
    (hfin := fun c s' => by
      dsimp only [Tₙ]
      rw [bufs_eq]
      unfold at_
      iintro ⟨⟨⟨Ha, -, H2⟩, Hz⟩, HSI⟩
      icombine HSI Ha gives %ha
      icombine HSI H2 gives %h2
      icombine HSI Hz gives %hz
      imodintro
      isplitr
      · ipureintro
        exact ⟨⟨Buf.eq_of_forall_mem_univ ha, Buf.eq_of_forall_mem_univ h2⟩, by simpa using hz⟩
      iexact HSI)
    (hQ := fun s h hs => ⟨fun c => by
        obtain ⟨⟨ha, h2⟩, -⟩ := h c
        rw [V₂_arg] at ha
        rw [V₂_out] at h2
        exact ⟨ha, h2⟩,
      sem_eq_zero hs fun c sm hsm => by
        obtain rfl := unscoped_sem sm hsm
        exact (h c).2⟩)

end Cert.RowMax
-- ==== Proof.Bits.lean ====
/-
  The kernel at the bit patterns and the kernel over the extended reals are one text, printed under two names. Here the two
  tables of bodies are shown equal, so what is proved of the one for any float values holds of the other.
-/
module

public import proofs.«01_k».proof.Proof.Run
public import proofs.«01_k».proof.Proof.Gen.Kernel
public import Idealize.ShloMosaic.PureOps.BitExact

@[expose] public section

set_option maxRecDepth 65536

noncomputable section

namespace Cert.RowMax

open Idealize.ShloMosaic Idealize.ShloMosaic.TcCoe Idealize.SL.Sem

attribute [local instance] Cert.Kernel.Gen.facts

variable {F : FTy → Type} [FloatOps F]

/-- The one body of the two tables is the same. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => rfl
  | ⟨n + 1, h⟩ => exact absurd h (Nat.not_lt.2 (Nat.le_add_left _ _))

/-- So the two tables, with the region and the pipeline added, are the same. -/
theorem defs_eq : Cert.Kernel.defs (F := F) = Cert.KernelIdeal.defs (F := F) := congrArg (Pipeline.defs _) bodies_eq

/-- The run of the kernel under its first name: it ends, its argument as it was, every semaphore at zero. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ fun r =>
      (∀ c : Dev Cert.Kernel.nD, r.2.mem ((c : Thread Cert.Kernel.nD Cert.Kernel.τ).loc Cert.Kernel.main_arg0)
        = m ((c : Thread Cert.Kernel.nD Cert.Kernel.τ).loc Cert.Kernel.main_arg0)) ∧ r.2.sem = fun _ => 0 := by
  rw [defs_eq]
  exact (θ_run Cert.KernelIdeal.defs _ _).mono (fun _ h => And.intro (fun c => (h.1 c).1) h.2) (run_main (F := F) m ρ)

end Cert.RowMax

end
-- ==== Proof.Value.lean ====
/-
  The mathematics of the row maxima: over the extended reals, what the kernel leaves on a device is that device's block of
  the maxima of the whole array's rows.
-/
module

public import proofs.«01_k».proof.Proof.Body
public import Idealize.ShloMosaic.Lib.Layout
public import Idealize.ShloMosaic.Lib.ValueIdx
public import Idealize.ShloMosaic.PureOps.Ideal.Laws

@[expose] public section

noncomputable section

namespace Cert.RowMax

open Cert.KernelIdeal Cert.KernelIdeal.Gen

open Idealize.ShloMosaic
open Idealize.ShloMosaic.TcCoe
open Idealize.ShloMosaic.ValueIdx

/-! ## Maxima of finite families -/

/-- The value every maximum starts from: the pattern of bf16's −∞. -/
def low : EReal := FloatOps.ofBits (F := Ideal) .bf16 0xFF80#16

/-- The maximum of a finite family, from `low`. -/
def top {n : ℕ} (f : Fin n → EReal) : EReal := Finset.univ.fold max low f

/-- A maximum is below `z` when the starting value and every entry are. -/
theorem top_le {n : ℕ} (f : Fin n → EReal) (z : EReal) : top f ≤ z ↔ low ≤ z ∧ ∀ k, f k ≤ z := by
  unfold top
  rw [Finset.fold_max_le]
  simp

/-- A maximum over 512 entries is the larger of the maxima over the block of 256 named by `s` and the other block. -/
theorem top_halves (f : Fin 512 → EReal) (s t : ℕ) (hs : s < 2) (ht : t < 2) (hst : s ≠ t) :
    max (top fun k : Fin 256 => f ⟨s * 256 + k.val, by omega⟩) (top fun k : Fin 256 => f ⟨t * 256 + k.val, by omega⟩) = top f := by
  refine eq_of_forall_ge_iff fun z => ?_
  rw [max_le_iff, top_le, top_le, top_le]
  constructor
  · rintro ⟨⟨hl, h₁⟩, -, h₂⟩
    refine ⟨hl, fun k => ?_⟩
    by_cases hk : k.val / 256 = s
    · have := h₁ ⟨k.val % 256, Nat.mod_lt _ (by omega)⟩
      rwa [show (⟨s * 256 + k.val % 256, by omega⟩ : Fin 512) = k from Fin.ext (by dsimp only; omega)] at this
    · have := h₂ ⟨k.val % 256, Nat.mod_lt _ (by omega)⟩
      rwa [show (⟨t * 256 + k.val % 256, by omega⟩ : Fin 512) = k from Fin.ext (by dsimp only; omega)] at this
  · rintro ⟨hl, h⟩
    exact ⟨⟨hl, fun k => h _⟩, hl, fun k => h _⟩

/-! ## One device's maxima -/

/-- The maximum of row `r` of a device's block. -/
def rowTop (x : FVec Ideal S512x256 .bf16) (r : Fin 512) : EReal := top fun k : Fin 256 => x (ix2 r k)

/-- Where entry `j` of 256 sits in the two lines of 128 lanes in which the kernel keeps it. -/
def lane (j : Fin 256) : S1x2x128.Idx := ix3 0 ⟨j.val / 128, by omega⟩ ⟨j.val % 128, by omega⟩

/-- A row's reduction, found at its lane. -/
theorem reduced (v : FVec Ideal S256x256 .bf16) (j : Fin 256) :
    k0_pay2 (F := Ideal) (k0_pay1 v) (lane j) = top fun k : Fin 256 => v (ix2 j k) := by
  unfold k0_pay2 k0_pay1 lane
  refine (shapeCast_apply _ shapeCasts_S2x128_S1x2x128 _ (ix2 ⟨j.val / 128, by omega⟩ ⟨j.val % 128, by omega⟩) ?_).trans ?_
  · rw [Shape.rowMajor_val_two, Shape.rowMajor_val_three]
    show j.val / 128 * 128 + j.val % 128 = (0 * 2 + j.val / 128) * 128 + j.val % 128
    omega
  refine (shapeCast_apply _ shapeCasts_S256_S2x128 _ (ix1 j) ?_).trans ?_
  · rw [Shape.rowMajor_val_one, Shape.rowMajor_val_two]
    show j.val = j.val / 128 * 128 + j.val % 128
    omega
  refine (Ideal.multiReduction_maximumf_single v 0xFF80#16 reduces_S256x256_S256 (.inr rfl) rfl (ix1 j)).trans ?_
  unfold top
  refine congrArg (Finset.fold max low · Finset.univ) (funext fun k => congrArg v ?_)
  funext d
  match d with
  | 0 => rfl
  | 1 => rfl

/-- What the kernel keeps once two devices' maxima have met: at each row the larger. -/
theorem joined_apply (a b : Vec Ideal S1x2x128 .bf16) (j : Fin 256) :
    joined (F := Ideal) a b (ix1 j) = max (a (lane j) : EReal) (b (lane j)) := by
  have hc (w : Vec Ideal S1x2x128 .bf16) :
      shapeCast S2x128 w shapeCasts_S1x2x128_S2x128 (ix2 ⟨j.val / 128, by omega⟩ ⟨j.val % 128, by omega⟩) = w (lane j) := by
    refine shapeCast_apply _ _ _ _ ?_
    rw [Shape.rowMajor_val_two, Shape.rowMajor_val_three]
    show (0 * 2 + j.val / 128) * 128 + j.val % 128 = j.val / 128 * 128 + j.val % 128
    omega
  unfold joined
  refine (shapeCast_apply _ shapeCasts_S2x128_S256 _ (ix2 ⟨j.val / 128, by omega⟩ ⟨j.val % 128, by omega⟩) ?_).trans ?_
  · rw [Shape.rowMajor_val_one, Shape.rowMajor_val_two]
    show j.val / 128 * 128 + j.val % 128 = j.val
    omega
  rw [maximumf_apply, hc, hc]

variable (m : (ℓ : Loc nD τ sig) → Buf (Elt Ideal) ℓ) (c : Dev nD)

/-- A device's block of the array, as it was at launch. -/
def blk : FVec Ideal S512x256 .bf16 := m ((c : Thread nD τ).loc main_arg0)

/-- What a device stores of its first 256 rows: each row's maximum over its own columns. -/
theorem part0_apply (j : Fin 256) : part0 m c (lane j) = rowTop (blk m c) ⟨j.val, by omega⟩ := by
  unfold part0 rowTop
  rw [reduced]
  refine congrArg top (funext fun k => congrArg (blk m c) ?_)
  funext d
  match d with
  | 0 => exact Fin.ext (show 0 + 1 * j.val = j.val by omega)
  | 1 => exact Fin.ext (show 0 + 1 * k.val = k.val by omega)

/-- The same of its last 256 rows. -/
theorem part1_apply (j : Fin 256) : part1 m c (lane j) = rowTop (blk m c) ⟨256 + j.val, by omega⟩ := by
  show k0_pay2 (k0_pay1 (rows m c rX1)) (lane j) = _
  unfold rowTop
  rw [reduced]
  refine congrArg top (funext fun k => congrArg (blk m c) ?_)
  funext d
  match d with
  | 0 => exact Fin.ext (show 256 + 1 * j.val = 256 + j.val by omega)
  | 1 => exact Fin.ext (show 0 + 1 * k.val = k.val by omega)

/-- The output of a device: at each of its rows the larger of its own maximum and its neighbour's. -/
theorem outAt_apply (r : Fin 512) :
    outAt m c (ix1 r) = max (rowTop (blk m c) r) (rowTop (blk m (peer c)) r) := by
  unfold outAt k0_pay5
  by_cases hr : r.val < 256
  · refine (concatenate_pair_apply_left 0 _ _ concatenates_S256_S256_S512_d0 (ix1 r) rfl (ix1 ⟨r.val, hr⟩) fun d => ?_).trans ?_
    · match d with
      | 0 => rfl
    rw [shapeCast_self, joined_apply, part0_apply, part0_apply]
  · refine (concatenate_pair_apply_right 0 _ _ concatenates_S256_S256_S512_d0 (ix1 r) rfl rfl (ix1 ⟨r.val - 256, by omega⟩) (fun d hd => ?_) ?_).trans ?_
    · match d with
      | 0 => exact absurd rfl hd
    · show r.val - 256 + 256 = r.val
      omega
    refine (joined_apply (part1 m c) (part1 m (peer c)) _).trans ?_
    rw [part1_apply, part1_apply]
    simp only [show (⟨256 + (r.val - 256), by omega⟩ : Fin 512) = r from Fin.ext (by dsimp only; omega)]

/-! ## The whole array -/

variable (x : FVec Ideal ⟨2, ![1024, 512]⟩ .bf16)

/-- The maximum of row `r` of the whole array. -/
def wholeTop (r : Fin 1024) : EReal := top fun k : Fin 512 => x (ix2 r k)

/-- A row's maximum within the block of columns a device holds. -/
theorem rowTop_block (h : blk m c = Layout.blockN ⟨2, ![512, 256]⟩ ⟨2, ![1024, 512]⟩ (Layout.meshBlock [2, 2] ![[0], [1]] c) x)
    (r : Fin 512) (g : Fin 1024) (hg : g.val = c.val / 2 * 512 + r.val) :
    rowTop (blk m c) r = top fun k : Fin 256 => x (ix2 g ⟨c.val % 2 * 256 + k.val, by omega⟩) := by
  unfold rowTop
  rw [h]
  refine congrArg top (funext fun k => ?_)
  rw [Layout.blockN_apply]
  refine congrArg x (funext fun d => Fin.ext ?_)
  have := c.isLt
  rw [Layout.TilesN.idx_val]
  match d with
  | 0 =>
    show (c.val / 2 % 2 * 1 + 0) * 512 + r.val = g.val
    omega
  | 1 =>
    show (c.val / 1 % 2 * 1 + 0) * 256 + k.val = c.val % 2 * 256 + k.val
    omega

/-- The output of every device is its block of the whole array's row maxima. -/
theorem outAt_whole
    (h : ∀ c : Dev nD, blk m c = Layout.blockN ⟨2, ![512, 256]⟩ ⟨2, ![1024, 512]⟩ (Layout.meshBlock [2, 2] ![[0], [1]] c) x)
    (r : Fin 512) (g : Fin 1024) (hg : g.val = c.val / 2 * 512 + r.val) :
    outAt m c (ix1 r) = wholeTop x g := by
  have hc : c.val < 4 := c.isLt
  have hp := peer_val c
  rw [outAt_apply, rowTop_block m c x (h c) r g hg, rowTop_block m (peer c) x (h (peer c)) r g (by omega)]
  exact top_halves (fun k => x (ix2 g k)) (c.val % 2) ((peer c).val % 2) (by omega) (by omega) (by omega)

/-- So, as the host reshapes it, when `w` is the column of the whole array's row maxima. -/
theorem column_whole
    (h : ∀ c : Dev nD, blk m c = Layout.blockN ⟨2, ![512, 256]⟩ ⟨2, ![1024, 512]⟩ (Layout.meshBlock [2, 2] ![[0], [1]] c) x)
    (w : FVec Ideal ⟨2, ![1024, 1]⟩ .bf16) (hw : ∀ r, w (ix2 r 0) = wholeTop x r) :
    shapeCast S512x1 (outAt m c) shapeCasts_S512_S512x1
      = Layout.blockN ⟨2, ![512, 1]⟩ ⟨2, ![1024, 1]⟩ (Layout.meshBlock [2, 2] ![[0], []] c) w := by
  have hc : c.val < 4 := c.isLt
  funext i
  obtain ⟨r, z, rfl⟩ : ∃ r z, i = ix2 r z := ⟨_, _, eq_ix2 i⟩
  obtain rfl : z = 0 := Subsingleton.elim _ _
  refine (shapeCast_apply _ shapeCasts_S512_S512x1 _ (ix1 r) ?_).trans ?_
  · rw [Shape.rowMajor_val_one, Shape.rowMajor_val_two]
    show r.val = r.val * 1 + 0
    omega
  rw [outAt_whole m c x h r ⟨c.val / 2 * 512 + r.val, by omega⟩ rfl, ← hw, Layout.blockN_apply]
  refine congrArg w (funext fun d => Fin.ext ?_)
  rw [Layout.TilesN.idx_val]
  match d with
  | 0 =>
    show c.val / 2 * 512 + r.val = (c.val / 2 % 2 * 1 + 0) * 512 + r.val
    omega
  | 1 => rfl

end Cert.RowMax

end
-- ==== Proof.Reference.lean ====
/-
  The reference over the extended reals: its result is the column of the array's row maxima.
-/
module

public import proofs.«01_k».proof.Proof.Value
public import proofs.«01_k».proof.Proof.Gen.ReferenceIdeal.Run

@[expose] public section

noncomputable section

namespace Cert.RowMax.Reference

open Cert.ReferenceIdeal Cert.ReferenceIdeal.Gen

open Idealize.ShloMosaic
open Idealize.ShloMosaic.TcCoe
open Idealize.ShloMosaic.ValueIdx

/-- What the reference computes of an array. -/
def result (x : FVec Ideal S1024x512 .bf16) : FVec Ideal S1024x1 .bf16 :=
  broadcastInDim S1024x1 ![0] bcast_S1024_S1024x1_0
    (Host.reduce FloatOps.maximumf x (constant S_ .bf16 0xFF80#16) reducesTo_S1024x512_S1024_d1 h_S_)

/-- Row by row it is the maximum of the row. -/
theorem result_apply (x : FVec Ideal S1024x512 .bf16) (r : Fin 1024) : result x (ix2 r 0) = wholeTop x r := by
  have hred : S1024x512.Reduces [1] S1024 := by decide
  unfold result wholeTop top
  refine (broadcastInDim_apply _ _ _ _ (ix1 r) fun d => ?_).trans ?_
  · match d with
    | 0 => rfl
  refine (Host.reduce_eq_fold_single (FloatOps.maximumf (F := Ideal) (φ := .bf16)) x _ reducesTo_S1024x512_S1024_d1 hred h_S_ (ix1 r)).trans ?_
  refine congrArg (Finset.fold max low · Finset.univ) (funext fun k => congrArg x ?_)
  funext d
  match d with
  | 0 => rfl
  | 1 => rfl

end Cert.RowMax.Reference

end
-- ==== Proof.lean ====
/-
  The proof of `Cert.Claim`: the kernel runs, leaves its argument as it was and every semaphore at zero, at the bit patterns
  and over the extended reals; the reference too; and over the extended reals each device ends with its block of the
  reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Bits
public import proofs.«01_k».proof.Proof.Value
public import proofs.«01_k».proof.Proof.Reference
public import Idealize.ShloMosaic.Lib.Quiescent

@[expose] public section

noncomputable section

namespace Cert.Proof

open Idealize.ShloMosaic Idealize.SL.Sem

/-- The kernel at the bit patterns. -/
theorem frame_kernel : Cert.quiescent_Kernel (hKernel := Cert.Kernel.Gen.facts) := fun m g _ => Cert.RowMax.run_kernel (F := Bits) m g

/-- The kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).1, h.2⟩) (Cert.RowMax.run_main (F := Ideal) m g)

/-- The reference, which has no semaphore. -/
theorem frame_referenceIdeal : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over the extended reals every device ends with its block of the column of row maxima, and so does the reference. -/
theorem algebraic :
    Cert.algebraic_KernelIdeal_ReferenceIdeal (hKernelIdeal := Cert.KernelIdeal.Gen.facts) (hReferenceIdeal := Cert.ReferenceIdeal.Gen.facts) := by
  intro m g m' g' _ hx
  refine ⟨Cert.RowMax.Reference.result _, (θ_run Cert.KernelIdeal.defs _ _).mono (fun _ h c => ⟨(h.1 c).2.trans ?_, (h.1 c).1⟩)
      (Cert.RowMax.run_main (F := Ideal) m g),
    (θ_run Cert.ReferenceIdeal.defs _ _).mono (fun _ h => h 0) (Cert.ReferenceIdeal.Value.run (F := Ideal) m' g')⟩
  exact Cert.RowMax.column_whole m c _ hx _ fun r => Cert.RowMax.Reference.result_apply _ r

/-- Every claim of this certificate. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
